-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200 : Shape := ⟨2, ![16384, 200]⟩
abbrev S_ : Shape := ⟨0, ![]⟩
abbrev S16 : Shape := ⟨1, ![16]⟩
abbrev S200x16384 : Shape := ⟨2, ![200, 16384]⟩
abbrev S1 : Shape := ⟨1, ![1]⟩
abbrev S2 : Shape := ⟨1, ![2]⟩
abbrev S200x4096 : Shape := ⟨2, ![200, 4096]⟩
abbrev S1x200x4096 : Shape := ⟨3, ![1, 200, 4096]⟩
abbrev S1x1x1 : Shape := ⟨3, ![1, 1, 1]⟩
abbrev S32x32 : Shape := ⟨2, ![32, 32]⟩
abbrev S200x128 : Shape := ⟨2, ![200, 128]⟩
abbrev S32 : Shape := ⟨1, ![32]⟩
abbrev S96x128 : Shape := ⟨2, ![96, 128]⟩
abbrev S104x128 : Shape := ⟨2, ![104, 128]⟩
abbrev S1x16 : Shape := ⟨2, ![1, 16]⟩
abbrev S1x32 : Shape := ⟨2, ![1, 32]⟩
abbrev S1x1 : Shape := ⟨2, ![1, 1]⟩
abbrev S32x16 : Shape := ⟨2, ![32, 16]⟩
abbrev S1x32x16 : Shape := ⟨3, ![1, 32, 16]⟩

abbrev nBuf : Table → Nat
  | .hbm => 12
  | .local .tc .vmem => 5
  | .local .tc .smem => 4
  | .local .scVector .vmem => 4
  | _ => 0

abbrev bufTy : (tb : Table) → Fin (nBuf tb) → BufTy
  | .hbm, ⟨0, _⟩ => ⟨S16384x200, .f32⟩
  | .hbm, ⟨1, _⟩ => ⟨S16384x200, .f32⟩
  | .hbm, ⟨2, _⟩ => ⟨S_, .i32⟩
  | .hbm, ⟨3, _⟩ => ⟨S_, .f32⟩
  | .hbm, ⟨4, _⟩ => ⟨S16, .f32⟩
  | .hbm, ⟨5, _⟩ => ⟨S200x16384, .f32⟩
  | .hbm, ⟨6, _⟩ => ⟨S200x16384, .f32⟩
  | .hbm, ⟨7, _⟩ => ⟨S1, .f32⟩
  | .hbm, ⟨8, _⟩ => ⟨S2, .f32⟩
  | .hbm, ⟨9, _⟩ => ⟨S32x32, .f32⟩
  | .hbm, ⟨10, _⟩ => ⟨S1x1, .f32⟩
  | .hbm, ⟨11, _⟩ => ⟨S_, .f32⟩
  | .local .tc .vmem, ⟨0, _⟩ => ⟨S200x4096, .f32⟩
  | .local .tc .vmem, ⟨1, _⟩ => ⟨S200x4096, .f32⟩
  | .local .tc .vmem, ⟨2, _⟩ => ⟨S200x4096, .f32⟩
  | .local .tc .vmem, ⟨3, _⟩ => ⟨S200x4096, .f32⟩
  | .local .tc .vmem, ⟨4, _⟩ => ⟨S32x32, .f32⟩
  | .local .tc .smem, ⟨0, _⟩ => ⟨S1, .f32⟩
  | .local .tc .smem, ⟨1, _⟩ => ⟨S2, .f32⟩
  | .local .tc .smem, ⟨2, _⟩ => ⟨S2, .f32⟩
  | .local .tc .smem, ⟨3, _⟩ => ⟨S1x1, .f32⟩
  | .local .scVector .vmem, ⟨0, _⟩ => ⟨S200x128, .f32⟩
  | .local .scVector .vmem, ⟨1, _⟩ => ⟨S200x128, .f32⟩
  | .local .scVector .vmem, ⟨2, _⟩ => ⟨S16, .f32⟩
  | .local .scVector .vmem, ⟨3, _⟩ => ⟨S32, .f32⟩
  | _, _ => ⟨S16384x200, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v2_scv : Ref sig .scVector := ⟨.hbm, 5, rfl⟩
abbrev main_v3_scv : Ref sig .scVector := ⟨.hbm, 6, rfl⟩
abbrev main_v1_scv : Ref sig .scVector := ⟨.hbm, 4, rfl⟩
abbrev main_v6_scv : Ref sig .scVector := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc2_stg0_0 : Ref sig .tc := ⟨.vmem, 4, rfl⟩
abbrev cc0_stg0_0 : Ref sig .tc := ⟨.smem, 0, rfl⟩
abbrev cc0_stg3_0 : Ref sig .tc := ⟨.smem, 1, rfl⟩
abbrev cc2_stg1_0 : Ref sig .tc := ⟨.smem, 2, rfl⟩
abbrev cc2_stg2_0 : Ref sig .tc := ⟨.smem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc2_sem0_0 : DmaSem sig := 12
abbrev cc2_sem1_0 : DmaSem sig := 13
abbrev cc2_sem2_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![3], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 2 → Nat :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k1_off2 (i : grid1.Coords) : Fin 2 → Nat :=
  let c96_i32_12 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![96, v2.toNat]
@[reducible] def k1_t1_loop : Scf.Loop 32 :=
  let c0_i32_41 : BitVec 32 := 0#32
  let c48_i32 : BitVec 32 := 48#32
  let v37 : BitVec 32 := Scalar.addi c0_i32_41 c48_i32
  let c1_i32 : BitVec 32 := 1#32
  ⟨c0_i32_41, v37, c1_i32⟩
def k1_off3 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v65 : Index := Scalar.indexCast v64
  let c0_62 : Index := 0#32
  ![v65.toNat, 0]
def k1_off4 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v82 : Index := Scalar.indexCast v64
  let c16_67 : Index := 16#32
  ![v82.toNat, 16]
def k1_off5 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v99 : Index := Scalar.indexCast v64
  let c32 : Index := 32#32
  ![v99.toNat, 32]
def k1_off6 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v116 : Index := Scalar.indexCast v64
  let c48 : Index := 48#32
  ![v116.toNat, 48]
def k1_off7 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v133 : Index := Scalar.indexCast v64
  let c64 : Index := 64#32
  ![v133.toNat, 64]
def k1_off8 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v150 : Index := Scalar.indexCast v64
  let c80 : Index := 80#32
  ![v150.toNat, 80]
def k1_off9 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v167 : Index := Scalar.indexCast v64
  let c96 : Index := 96#32
  ![v167.toNat, 96]
def k1_off10 (k1_t1 : Fin k1_t1_loop.trips) (c0_i32_61 : BitVec 32) : Fin 2 → Nat :=
  let c0_i32_60 : BitVec 32 := 0#32
  let c0_i32_41 : BitVec 32 := 0#32
  let c1_i32 : BitVec 32 := 1#32
  let arg14 : BitVec 32 := Scf.iv c0_i32_41 c1_i32 k1_t1
  let c2_i32_59 : BitVec 32 := 2#32
  let v62 : BitVec 32 := Scalar.muli arg14 c2_i32_59
  let v63 : BitVec 32 := Scalar.addi c0_i32_60 v62
  let v64 : BitVec 32 := Scalar.addi v63 c0_i32_61
  let v184 : Index := Scalar.indexCast v64
  let c112 : Index := 112#32
  ![v184.toNat, 112]
@[reducible] def k1_t2_loop : Scf.Loop 32 :=
  let c0_i32_55 : BitVec 32 := 0#32
  let c52_i32 : BitVec 32 := 52#32
  let v47 : BitVec 32 := Scalar.addi c0_i32_55 c52_i32
  let c1_i32_56 : BitVec 32 := 1#32
  ⟨c0_i32_55, v47, c1_i32_56⟩
def k1_off11 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v65 : Index := Scalar.indexCast v64
  let c0_62 : Index := 0#32
  ![v65.toNat, 0]
def k1_off12 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v82 : Index := Scalar.indexCast v64
  let c16_67 : Index := 16#32
  ![v82.toNat, 16]
def k1_off13 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v99 : Index := Scalar.indexCast v64
  let c32 : Index := 32#32
  ![v99.toNat, 32]
def k1_off14 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v116 : Index := Scalar.indexCast v64
  let c48 : Index := 48#32
  ![v116.toNat, 48]
def k1_off15 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v133 : Index := Scalar.indexCast v64
  let c64 : Index := 64#32
  ![v133.toNat, 64]
def k1_off16 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v150 : Index := Scalar.indexCast v64
  let c80 : Index := 80#32
  ![v150.toNat, 80]
def k1_off17 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v167 : Index := Scalar.indexCast v64
  let c96 : Index := 96#32
  ![v167.toNat, 96]
def k1_off18 (k1_t2 : Fin k1_t2_loop.trips) (c0_i32_61 : BitVec 32) : Fin 2 → Nat :=
  let c96_i32_60 : BitVec 32 := 96#32
  let c0_i32_55 : BitVec 32 := 0#32
  let c1_i32_56 : BitVec 32 := 1#32
  let arg14 : BitVec 32 := Scf.iv c0_i32_55 c1_i32_56 k1_t2
  let c2_i32_59 : BitVec 32 := 2#32
  let v62 : BitVec 32 := Scalar.muli arg14 c2_i32_59
  let v63 : BitVec 32 := Scalar.addi c96_i32_60 v62
  let v64 : BitVec 32 := Scalar.addi v63 c0_i32_61
  let v184 : Index := Scalar.indexCast v64
  let c112 : Index := 112#32
  ![v184.toNat, 112]
def k1_off19 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_59_r1 : BitVec 32 := 0#32
  ![v1.toNat, 0]
abbrev grid2 : Pipeline.Grid := .none

abbrev stage2_0 : Fin 1 → Memref sig .tc .vmem S32x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S16384x200, .f32⟩
  | .hbm, ⟨2, _⟩ => ⟨S_, .i32⟩
  | .hbm, ⟨3, _⟩ => ⟨S_, .f32⟩
  | .hbm, ⟨4, _⟩ => ⟨S16384x200, .f32⟩
  | .hbm, ⟨5, _⟩ => ⟨S16384x200, .i1⟩
  | .hbm, ⟨6, _⟩ => ⟨S_, .f32⟩
  | .hbm, ⟨7, _⟩ => ⟨S16384x200, .f32⟩
  | .hbm, ⟨8, _⟩ => ⟨S16384x200, .f32⟩
  | .hbm, ⟨9, _⟩ => ⟨S16384x200, .f32⟩
  | .hbm, ⟨10, _⟩ => ⟨S16384x200, .f32⟩
  | .hbm, ⟨11, _⟩ => ⟨S16384x200, .f32⟩
  | .hbm, ⟨12, _⟩ => ⟨S_, .f32⟩
  | .hbm, ⟨13, _⟩ => ⟨S16384x200, .f32⟩
  | .hbm, ⟨14, _⟩ => ⟨S16384x200, .f32⟩
  | .hbm, ⟨15, _⟩ => ⟨S_, .f32⟩
  | .hbm, ⟨16, _⟩ => ⟨S_, .f32⟩
  | .hbm, ⟨17, _⟩ => ⟨S16384x200, .i32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdeal.Setup.lean ====
/-
  What the other modules of this directory share: the program as the SparseCores' launch theorem sees it, the algebra
  of ghost state (the launch's handshakes, the two pipelines' staging cells, the local transfers' counters), and the
  names of the arrays.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.RunKernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type}

/-- The labels of the two TensorCore pipelines over the kernels' own. -/
abbrev ΛP : Labels := Pipeline.Sig Λ₀ (Fin 2) fun p => (pcfgs (F := F) p).Adm
/-- The one SparseCore call. -/
abbrev K : SparseCore.Cfg τ sig (ΛP (F := F)) 1 := sc (F := F)
/-- The bodies beneath the SparseCore call: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and unscoped, and no array of the program is shared by the tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' staging rounds. -/
abbrev UP : Type := URounds (GSem nD τ sig) Unit
/-- The ghost state of the run: the two kinds of rounds beside the transfers' counters. -/
abbrev UU : Type := (UH × UP) × Counters

local notation "𝕄" => MT nD τ sig (HIx 1) (Elt F) ℕ UU ℕ

/-- Where the two kinds of rounds lie in the ghost state. -/
def EL : Emb (UH × UP) (MT nD τ sig (HIx 1) (Elt F) ℕ UU ℕ) := embL
def EH : Emb UH (MT nD τ sig (HIx 1) (Elt F) ℕ UU ℕ) := (Emb.inl : Emb UH (UH × UP)).trans EL
def EP : Emb UP (MT nD τ sig (HIx 1) (Elt F) ℕ UU ℕ) := (Emb.inr : Emb UP (UH × UP)).trans EL

instance EH_landsIn : (EH (F := F)).LandsIn (upEmb : UEmb _ (MT nD τ sig (HIx 1) (Elt F) ℕ UU ℕ)) := by
  unfold EH EL embL; infer_instance
instance EP_landsIn : (EP (F := F)).LandsIn (upEmb : UEmb _ (MT nD τ sig (HIx 1) (Elt F) ℕ UU ℕ)) := by
  unfold EP EL embL; infer_instance

end Cert.RunKernelIdeal

end
-- ==== Proof.KernelIdeal.Values.lean ====
/-
  What one tile of the SparseCores computes, as a function of the arrays it reads: the running sums of its lanes over
  the rows of its block of columns.
-/
module

public import proofs.«01_k».proof.Proof.KernelIdeal.Setup

@[expose] public section

noncomputable section

namespace Cert.RunKernelIdeal

open Cert.KernelIdeal Cert.KernelIdeal.Gen

open Idealize.ShloMosaic
open Idealize.ShloMosaic.SparseCore (S V T)
open Idealize.SL.Sem

variable {F : FTy → Type} [FloatOps F]

/-! ## The arrays and the threads a tile works with -/

abbrev pV : Memref sig .scVector .hbm S200x16384 .f32 := Memref.whole main_v2_scv
abbrev tV : Memref sig .scVector .hbm S200x16384 .f32 := Memref.whole main_v3_scv
abbrev vV : Memref sig .scVector .hbm S16 .f32 := Memref.whole main_v1_scv
abbrev oV : Memref sig .scVector .hbm S32x32 .f32 := Memref.whole main_v6_scv
abbrev aV : Memref sig .scVector .vmem S200x128 .f32 := Memref.whole cc1_scratch0
abbrev bV : Memref sig .scVector .vmem S200x128 .f32 := Memref.whole cc1_scratch1
abbrev wV : Memref sig .scVector .vmem S16 .f32 := Memref.whole cc1_scratch2
abbrev rV : Memref sig .scVector .vmem S32 .f32 := Memref.whole cc1_scratch3

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- The first 96 rows of a fetched block, -/
abbrev lo (m : Memref sig .scVector .vmem S200x128 .f32) : Memref sig .scVector .vmem S96x128 .f32 :=
  m.slice (Rect.unit (s := S200x128) ![0, 0] S96x128.size inb_S200x128_S96x128_0_0) (fun _ => rfl)
/-- and the other 104. -/
abbrev hi (m : Memref sig .scVector .vmem S200x128 .f32) : Memref sig .scVector .vmem S104x128 .f32 :=
  m.slice (Rect.unit (s := S200x128) ![96, 0] S104x128.size inb_S200x128_S104x128_96_0) (fun _ => rfl)
/-- The row of partial results tile `L` writes. -/
abbrev oRow (L : grid1.Coords) : Memref sig .scVector .hbm S32 .f32 :=
  (oV.slice (Rect.unit (s := S32x32) (k1_off19 L) S1x32.size (k1_off19_inb L)) (fun _ => rfl)).squeeze S32 squeezes_S1x32_S32

abbrev loR : Rect S200x128 := Rect.unit (s := S200x128) ![0, 0] S96x128.size inb_S200x128_S96x128_0_0
abbrev hiR : Rect S200x128 := Rect.unit (s := S200x128) ![96, 0] S104x128.size inb_S200x128_S104x128_96_0

/-! ## The values -/

/-- The eight running vectors of a tile: four sums of relative errors and four counts. -/
abbrev Acc (F : FTy → Type) : Type :=
  FVec F S16 .f32 × FVec F S16 .f32 × FVec F S16 .f32 × FVec F S16 .f32 × IVec S16 32 × IVec S16 32 × IVec S16 32 × IVec S16 32

/-- A position of a tile's block from a row and a column given as plain numbers. -/
def at2 (r c : ℕ) : S200x128.Idx
  | 0 => ⟨r % 200, Nat.mod_lt _ (by decide)⟩
  | 1 => ⟨c % 128, Nat.mod_lt _ (by decide)⟩
  | ⟨_ + 2, h⟩ => absurd h (Nat.not_lt.2 (Nat.le_add_left _ _))

/-- Sixteen neighbouring lanes of row `r`: the lanes of group `j`. -/
def seg (X : S200x128.Idx → F .f32) (r j : ℕ) : Vec F S1x16 .f32 := fun x => X (at2 r (16 * j + (x 1).val))

/-- One row added to the running vectors: group `j` of its eight groups of lanes goes to running vector `j % 4`. -/
def step (v : FVec F S16 .f32) (X Y : S200x128.Idx → F .f32) (r : ℕ) : Acc F → Acc F
  | (n0, n1, n2, n3, c0, c1, c2, c3) =>
    (k1_pay6 v (k1_pay6 v n0 (seg Y r 0) (seg X r 0)) (seg Y r 4) (seg X r 4),
     k1_pay6 v (k1_pay6 v n1 (seg Y r 1) (seg X r 1)) (seg Y r 5) (seg X r 5),
     k1_pay6 v (k1_pay6 v n2 (seg Y r 2) (seg X r 2)) (seg Y r 6) (seg X r 6),
     k1_pay6 v (k1_pay6 v n3 (seg Y r 3) (seg X r 3)) (seg Y r 7) (seg X r 7),
     k1_pay7 v (k1_pay7 v c0 (seg Y r 0)) (seg Y r 4),
     k1_pay7 v (k1_pay7 v c1 (seg Y r 1)) (seg Y r 5),
     k1_pay7 v (k1_pay7 v c2 (seg Y r 2)) (seg Y r 6),
     k1_pay7 v (k1_pay7 v c3 (seg Y r 3)) (seg Y r 7))

/-- The running vectors before the first row. -/
def acc0 : Acc F :=
  (k1_pay135, k1_pay136, k1_pay137, k1_pay138, k1_pay139, k1_pay140, k1_pay141, k1_pay142)

/-- The running vectors after the first `n` rows. -/
def rows (v : FVec F S16 .f32) (X Y : S200x128.Idx → F .f32) : ℕ → Acc F
  | 0 => acc0
  | n + 1 => step v X Y n (rows v X Y n)

/-- The number of tile `L`, which is also the row it writes. -/
def wid (L : grid1.Coords) : ℕ := 2 * (L 1).val + (L 0).val

/-- A position of a whole input from a row and a column given as plain numbers. -/
def atBig (r c : ℕ) : S200x16384.Idx
  | 0 => ⟨r % 200, Nat.mod_lt _ (by decide)⟩
  | 1 => ⟨c % 16384, Nat.mod_lt _ (by decide)⟩
  | ⟨_ + 2, h⟩ => absurd h (Nat.not_lt.2 (Nat.le_add_left _ _))

/-- The block of columns tile number `w` fetches. -/
def blockOf (w : ℕ) (A : S200x16384.Idx → F .f32) : S200x128.Idx → F .f32 :=
  fun x => A (atBig (x 0).val (128 * w + (x 1).val))

/-- A lane from its number. -/
def lane (n : ℕ) : S16.Idx
  | 0 => ⟨n % 16, Nat.mod_lt _ (by decide)⟩
  | ⟨_ + 1, h⟩ => absurd h (Nat.not_lt.2 (Nat.le_add_left _ _))

/-- The sums a tile writes, from its running vectors, -/
def accNum (a : Acc F) : FVec F S16 .f32 := k1_pay2 a.1 a.2.1 a.2.2.1 a.2.2.2.1

/-- and the counts. -/
def accCnt (a : Acc F) : FVec F S16 .f32 := k1_pay3 (F := F) a.2.2.2.2.1 a.2.2.2.2.2.1 a.2.2.2.2.2.2.1 a.2.2.2.2.2.2.2

/-- The running vectors of tile number `w` after all its rows. -/
def tileAcc (w : ℕ) (P Q : S200x16384.Idx → F .f32) (v : S16.Idx → F .f32) : Acc F :=
  rows (k1_pay134 v) (blockOf w P) (blockOf w Q) 200

/-- What tile number `w` writes: sixteen sums and then sixteen counts. -/
def tileOut (w : ℕ) (P Q : S200x16384.Idx → F .f32) (v : S16.Idx → F .f32) (n : ℕ) : F .f32 :=
  if n < 16 then accNum (tileAcc w P Q v) (lane n) else accCnt (tileAcc w P Q v) (lane n)

/-- The whole array of partial results: row `w` is tile number `w`'s. -/
def parts (P Q : S200x16384.Idx → F .f32) (v : S16.Idx → F .f32) : S32x32.Idx → F .f32 :=
  fun x => tileOut (x 0).val P Q v (x 1).val

end Cert.RunKernelIdeal
end
-- ==== Proof.KernelIdeal.Trips.lean ====
/-
  One trip of each of the tile's two counted loops adds two rows to the running vectors.
-/
module

public import proofs.«01_k».proof.Proof.KernelIdeal.Values

@[expose] public section

noncomputable section

namespace Cert.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A load of sixteen lanes of a row is the row's segment. -/
theorem load_seg (X : S200x128.Idx → F .f32) (off : Fin 2 → ℕ) (inb : ∀ a, off a + S1x16.size a ≤ S200x128.size a) (r j : ℕ)
    (h : off = ![r, 16 * j]) (x : S1x16.Idx) :
    X ((Rect.unit (s := S200x128) off S1x16.size inb).emb x) = seg X r j x := by
  subst h
  have h0 := inb 0; have h1 := inb 1
  change r + 1 ≤ 200 at h0
  change 16 * j + 16 ≤ 128 at h1
  have hx : (x 0).val < 1 := (x 0).isLt
  have hx1 : (x 1).val < 16 := (x 1).isLt
  show X _ = X _
  congr 1
  funext a
  apply Fin.ext
  match a with
  | 0 =>
    show r + 1 * (x 0).val = r % 200
    rw [Nat.mod_eq_of_lt (by omega)]; omega
  | 1 =>
    show 16 * j + 1 * (x 1).val = (16 * j + (x 1).val) % 128
    rw [Nat.mod_eq_of_lt (by omega)]; omega

/-- Four sums in a row, of equal segments, are equal; -/
theorem num4 (v n : FVec F S16 .f32) {t0 t0' p0 p0' t1 t1' p1 p1' t2 t2' p2 p2' t3 t3' p3 p3' : Vec F S1x16 .f32}
    (h0 : t0 = t0') (g0 : p0 = p0') (h1 : t1 = t1') (g1 : p1 = p1') (h2 : t2 = t2') (g2 : p2 = p2') (h3 : t3 = t3') (g3 : p3 = p3') :
    k1_pay6 v (k1_pay6 v (k1_pay6 v (k1_pay6 v n t0 p0) t1 p1) t2 p2) t3 p3
      = k1_pay6 v (k1_pay6 v (k1_pay6 v (k1_pay6 v n t0' p0') t1' p1') t2' p2') t3' p3' := by
  subst h0; subst g0; subst h1; subst g1; subst h2; subst g2; subst h3; subst g3; rfl

/-- four counts likewise; -/
theorem cnt4 (v : FVec F S16 .f32) (n : IVec S16 32) {t0 t0' t1 t1' t2 t2' t3 t3' : Vec F S1x16 .f32}
    (h0 : t0 = t0') (h1 : t1 = t1') (h2 : t2 = t2') (h3 : t3 = t3') :
    k1_pay7 v (k1_pay7 v (k1_pay7 v (k1_pay7 v n t0) t1) t2) t3
      = k1_pay7 v (k1_pay7 v (k1_pay7 v (k1_pay7 v n t0') t1') t2') t3' := by
  subst h0; subst h1; subst h2; subst h3; rfl

/-- and eight equal running vectors make equal running vectors. -/
theorem acc_ext {a0 b0 a1 b1 a2 b2 a3 b3 : FVec F S16 .f32} {a4 b4 a5 b5 a6 b6 a7 b7 : IVec S16 32}
    (h0 : a0 = b0) (h1 : a1 = b1) (h2 : a2 = b2) (h3 : a3 = b3) (h4 : a4 = b4) (h5 : a5 = b5) (h6 : a6 = b6) (h7 : a7 = b7) :
    ((a0, a1, a2, a3, a4, a5, a6, a7) : Acc F) = (b0, b1, b2, b3, b4, b5, b6, b7) := by
  subst h0; subst h1; subst h2; subst h3; subst h4; subst h5; subst h6; subst h7; rfl

/-- A trip of the first loop adds two rows to the running vectors. -/
theorem trip1 (d : Dev nD) (L : grid1.Coords)
    (X : Buf (Elt F) ((aV).view.loc (VT d L))) (Y : Buf (Elt F) ((bV).view.loc (VT d L)))
    (v v21 v22 : FVec F S16 .f32) (k : Fin k1_t1_loop.trips) (c : Acc F) :
    (iprop(((aV).view.loc (VT d L) ↦[(aV).view.setOn loR.set]{fullShare} X)
        ∗ ((bV).view.loc (VT d L) ↦[(bV).view.setOn loR.set]{fullShare} Y)) : sProp 𝕄)
      ⊢ wp frame (wpE (defs₀ (F := F)) 𝒱₀ (VT d L) none) Set.univ
          (k1_t1_body L pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1 v v21 v22 k c)
          fun c' => iprop(⌜c' = step v X Y (2 * k.val + 1) (step v X Y (2 * k.val + 0) c)⌝
            ∗ ((aV).view.loc (VT d L) ↦[(aV).view.setOn loR.set]{fullShare} X)
            ∗ ((bV).view.loc (VT d L) ↦[(bV).view.setOn loR.set]{fullShare} Y)) := by
  unfold loR pV tV vV oV aV bV wV rV
  iintro ⟨Ha, Hb⟩
  obtain ⟨n0, n1, n2, n3, c0, c1, c2, c3⟩ := c
  have hk : k.val < 48 := lt_of_lt_of_le k.isLt k1_t1_abs.2.1
  sl_unfold [k1_t1_body]
  sl_exec
  sl_step
  isplitr
  · ipureintro
    have hA : ∀ (off : Fin 2 → ℕ) (inb : ∀ a, off a + S1x16.size a ≤ S200x128.size a) (r j : ℕ), off = ![r, 16 * j] →
        View.readAt (Elt F) (Memref.whole cc1_scratch0).view (Rect.unit (s := S200x128) off S1x16.size inb).toLoadRect X = seg X r j :=
      fun off inb r j h => funext fun x => load_seg X off inb r j h x
    have hB : ∀ (off : Fin 2 → ℕ) (inb : ∀ a, off a + S1x16.size a ≤ S200x128.size a) (r j : ℕ), off = ![r, 16 * j] →
        View.readAt (Elt F) (Memref.whole cc1_scratch1).view (Rect.unit (s := S200x128) off S1x16.size inb).toLoadRect Y = seg Y r j :=
      fun off inb r j h => funext fun x => load_seg Y off inb r j h x
    exact acc_ext
      (num4 v n0 (hB _ (k1_off3_inb k 0) _ 0 (k1_off3_eq k 0)) (hA _ (k1_off3_inb k 0) _ 0 (k1_off3_eq k 0)) (hB _ (k1_off7_inb k 0) _ 4 (k1_off7_eq k 0)) (hA _ (k1_off7_inb k 0) _ 4 (k1_off7_eq k 0)) (hB _ (k1_off3_inb k 1) _ 0 (k1_off3_eq k 1)) (hA _ (k1_off3_inb k 1) _ 0 (k1_off3_eq k 1)) (hB _ (k1_off7_inb k 1) _ 4 (k1_off7_eq k 1)) (hA _ (k1_off7_inb k 1) _ 4 (k1_off7_eq k 1)))
      (num4 v n1 (hB _ (k1_off4_inb k 0) _ 1 (k1_off4_eq k 0)) (hA _ (k1_off4_inb k 0) _ 1 (k1_off4_eq k 0)) (hB _ (k1_off8_inb k 0) _ 5 (k1_off8_eq k 0)) (hA _ (k1_off8_inb k 0) _ 5 (k1_off8_eq k 0)) (hB _ (k1_off4_inb k 1) _ 1 (k1_off4_eq k 1)) (hA _ (k1_off4_inb k 1) _ 1 (k1_off4_eq k 1)) (hB _ (k1_off8_inb k 1) _ 5 (k1_off8_eq k 1)) (hA _ (k1_off8_inb k 1) _ 5 (k1_off8_eq k 1)))
      (num4 v n2 (hB _ (k1_off5_inb k 0) _ 2 (k1_off5_eq k 0)) (hA _ (k1_off5_inb k 0) _ 2 (k1_off5_eq k 0)) (hB _ (k1_off9_inb k 0) _ 6 (k1_off9_eq k 0)) (hA _ (k1_off9_inb k 0) _ 6 (k1_off9_eq k 0)) (hB _ (k1_off5_inb k 1) _ 2 (k1_off5_eq k 1)) (hA _ (k1_off5_inb k 1) _ 2 (k1_off5_eq k 1)) (hB _ (k1_off9_inb k 1) _ 6 (k1_off9_eq k 1)) (hA _ (k1_off9_inb k 1) _ 6 (k1_off9_eq k 1)))
      (num4 v n3 (hB _ (k1_off6_inb k 0) _ 3 (k1_off6_eq k 0)) (hA _ (k1_off6_inb k 0) _ 3 (k1_off6_eq k 0)) (hB _ (k1_off10_inb k 0) _ 7 (k1_off10_eq k 0)) (hA _ (k1_off10_inb k 0) _ 7 (k1_off10_eq k 0)) (hB _ (k1_off6_inb k 1) _ 3 (k1_off6_eq k 1)) (hA _ (k1_off6_inb k 1) _ 3 (k1_off6_eq k 1)) (hB _ (k1_off10_inb k 1) _ 7 (k1_off10_eq k 1)) (hA _ (k1_off10_inb k 1) _ 7 (k1_off10_eq k 1)))
      (cnt4 v c0 (hB _ (k1_off3_inb k 0) _ 0 (k1_off3_eq k 0)) (hB _ (k1_off7_inb k 0) _ 4 (k1_off7_eq k 0)) (hB _ (k1_off3_inb k 1) _ 0 (k1_off3_eq k 1)) (hB _ (k1_off7_inb k 1) _ 4 (k1_off7_eq k 1)))
      (cnt4 v c1 (hB _ (k1_off4_inb k 0) _ 1 (k1_off4_eq k 0)) (hB _ (k1_off8_inb k 0) _ 5 (k1_off8_eq k 0)) (hB _ (k1_off4_inb k 1) _ 1 (k1_off4_eq k 1)) (hB _ (k1_off8_inb k 1) _ 5 (k1_off8_eq k 1)))
      (cnt4 v c2 (hB _ (k1_off5_inb k 0) _ 2 (k1_off5_eq k 0)) (hB _ (k1_off9_inb k 0) _ 6 (k1_off9_eq k 0)) (hB _ (k1_off5_inb k 1) _ 2 (k1_off5_eq k 1)) (hB _ (k1_off9_inb k 1) _ 6 (k1_off9_eq k 1)))
      (cnt4 v c3 (hB _ (k1_off6_inb k 0) _ 3 (k1_off6_eq k 0)) (hB _ (k1_off10_inb k 0) _ 7 (k1_off10_eq k 0)) (hB _ (k1_off6_inb k 1) _ 3 (k1_off6_eq k 1)) (hB _ (k1_off10_inb k 1) _ 7 (k1_off10_eq k 1)))
  · isplitl [Ha] <;> iassumption

/-- The state between two trips: the two blocks, and the running vectors of the rows done. -/
def inv1 (d : Dev nD) (L : grid1.Coords)
    (X : Buf (Elt F) ((aV).view.loc (VT d L))) (Y : Buf (Elt F) ((bV).view.loc (VT d L))) (v : FVec F S16 .f32)
    (k : ℕ) (c : Acc F) : sProp 𝕄 :=
  iprop(⌜c = rows v X Y (2 * k)⌝
    ∗ ((aV).view.loc (VT d L) ↦[(aV).view.setOn loR.set]{fullShare} X)
    ∗ ((bV).view.loc (VT d L) ↦[(bV).view.setOn loR.set]{fullShare} Y))

/-- A trip carries it on. -/
theorem trip1_inv (d : Dev nD) (L : grid1.Coords)
    (X : Buf (Elt F) ((aV).view.loc (VT d L))) (Y : Buf (Elt F) ((bV).view.loc (VT d L)))
    (v v21 v22 : FVec F S16 .f32) (k : Fin k1_t1_loop.trips) (c : Acc F) :
    inv1 d L X Y v k.val c
      ⊢ wp frame (wpE (defs₀ (F := F)) 𝒱₀ (VT d L) none) Set.univ
          (k1_t1_body L pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1 v v21 v22 k c)
          fun c' => inv1 d L X Y v (k.val + 1) c' := by
  unfold inv1
  iintro ⟨%hc, Ha, Hb⟩
  iapply ((trip1 d L X Y v v21 v22 k c).trans (wp_mono frame _ _ fun c' => by
    iintro ⟨%hc', Ha, Hb⟩
    isplitr
    · ipureintro
      rw [hc', hc, show 2 * (k.val + 1) = (2 * k.val + 0) + 1 + 1 by omega]
      rfl
    · isplitl [Ha] <;> iassumption))
  isplitl [Ha] <;> iassumption

/-- A trip of the second loop adds two rows to the running vectors. -/
theorem trip2 (d : Dev nD) (L : grid1.Coords)
    (X : Buf (Elt F) ((aV).view.loc (VT d L))) (Y : Buf (Elt F) ((bV).view.loc (VT d L)))
    (v : FVec F S16 .f32) (k : Fin k1_t2_loop.trips) (c : Acc F) :
    (iprop(((aV).view.loc (VT d L) ↦[(aV).view.setOn hiR.set]{fullShare} X)
        ∗ ((bV).view.loc (VT d L) ↦[(bV).view.setOn hiR.set]{fullShare} Y)) : sProp 𝕄)
      ⊢ wp frame (wpE (defs₀ (F := F)) 𝒱₀ (VT d L) none) Set.univ
          (k1_t2_body L pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1 v k c)
          fun c' => iprop(⌜c' = step v X Y (2 * k.val + 1 + 96) (step v X Y (2 * k.val + 0 + 96) c)⌝
            ∗ ((aV).view.loc (VT d L) ↦[(aV).view.setOn hiR.set]{fullShare} X)
            ∗ ((bV).view.loc (VT d L) ↦[(bV).view.setOn hiR.set]{fullShare} Y)) := by
  unfold hiR pV tV vV oV aV bV wV rV
  iintro ⟨Ha, Hb⟩
  obtain ⟨n0, n1, n2, n3, c0, c1, c2, c3⟩ := c
  have hk : k.val < 52 := lt_of_lt_of_le k.isLt k1_t2_abs.2.1
  sl_unfold [k1_t2_body]
  sl_exec
  sl_step
  isplitr
  · ipureintro
    have hA : ∀ (off : Fin 2 → ℕ) (inb : ∀ a, off a + S1x16.size a ≤ S200x128.size a) (r j : ℕ), off = ![r, 16 * j] →
        View.readAt (Elt F) (Memref.whole cc1_scratch0).view (Rect.unit (s := S200x128) off S1x16.size inb).toLoadRect X = seg X r j :=
      fun off inb r j h => funext fun x => load_seg X off inb r j h x
    have hB : ∀ (off : Fin 2 → ℕ) (inb : ∀ a, off a + S1x16.size a ≤ S200x128.size a) (r j : ℕ), off = ![r, 16 * j] →
        View.readAt (Elt F) (Memref.whole cc1_scratch1).view (Rect.unit (s := S200x128) off S1x16.size inb).toLoadRect Y = seg Y r j :=
      fun off inb r j h => funext fun x => load_seg Y off inb r j h x
    exact acc_ext
      (num4 v n0 (hB _ (k1_off11_inb k 0) _ 0 (k1_off11_eq k 0)) (hA _ (k1_off11_inb k 0) _ 0 (k1_off11_eq k 0)) (hB _ (k1_off15_inb k 0) _ 4 (k1_off15_eq k 0)) (hA _ (k1_off15_inb k 0) _ 4 (k1_off15_eq k 0)) (hB _ (k1_off11_inb k 1) _ 0 (k1_off11_eq k 1)) (hA _ (k1_off11_inb k 1) _ 0 (k1_off11_eq k 1)) (hB _ (k1_off15_inb k 1) _ 4 (k1_off15_eq k 1)) (hA _ (k1_off15_inb k 1) _ 4 (k1_off15_eq k 1)))
      (num4 v n1 (hB _ (k1_off12_inb k 0) _ 1 (k1_off12_eq k 0)) (hA _ (k1_off12_inb k 0) _ 1 (k1_off12_eq k 0)) (hB _ (k1_off16_inb k 0) _ 5 (k1_off16_eq k 0)) (hA _ (k1_off16_inb k 0) _ 5 (k1_off16_eq k 0)) (hB _ (k1_off12_inb k 1) _ 1 (k1_off12_eq k 1)) (hA _ (k1_off12_inb k 1) _ 1 (k1_off12_eq k 1)) (hB _ (k1_off16_inb k 1) _ 5 (k1_off16_eq k 1)) (hA _ (k1_off16_inb k 1) _ 5 (k1_off16_eq k 1)))
      (num4 v n2 (hB _ (k1_off13_inb k 0) _ 2 (k1_off13_eq k 0)) (hA _ (k1_off13_inb k 0) _ 2 (k1_off13_eq k 0)) (hB _ (k1_off17_inb k 0) _ 6 (k1_off17_eq k 0)) (hA _ (k1_off17_inb k 0) _ 6 (k1_off17_eq k 0)) (hB _ (k1_off13_inb k 1) _ 2 (k1_off13_eq k 1)) (hA _ (k1_off13_inb k 1) _ 2 (k1_off13_eq k 1)) (hB _ (k1_off17_inb k 1) _ 6 (k1_off17_eq k 1)) (hA _ (k1_off17_inb k 1) _ 6 (k1_off17_eq k 1)))
      (num4 v n3 (hB _ (k1_off14_inb k 0) _ 3 (k1_off14_eq k 0)) (hA _ (k1_off14_inb k 0) _ 3 (k1_off14_eq k 0)) (hB _ (k1_off18_inb k 0) _ 7 (k1_off18_eq k 0)) (hA _ (k1_off18_inb k 0) _ 7 (k1_off18_eq k 0)) (hB _ (k1_off14_inb k 1) _ 3 (k1_off14_eq k 1)) (hA _ (k1_off14_inb k 1) _ 3 (k1_off14_eq k 1)) (hB _ (k1_off18_inb k 1) _ 7 (k1_off18_eq k 1)) (hA _ (k1_off18_inb k 1) _ 7 (k1_off18_eq k 1)))
      (cnt4 v c0 (hB _ (k1_off11_inb k 0) _ 0 (k1_off11_eq k 0)) (hB _ (k1_off15_inb k 0) _ 4 (k1_off15_eq k 0)) (hB _ (k1_off11_inb k 1) _ 0 (k1_off11_eq k 1)) (hB _ (k1_off15_inb k 1) _ 4 (k1_off15_eq k 1)))
      (cnt4 v c1 (hB _ (k1_off12_inb k 0) _ 1 (k1_off12_eq k 0)) (hB _ (k1_off16_inb k 0) _ 5 (k1_off16_eq k 0)) (hB _ (k1_off12_inb k 1) _ 1 (k1_off12_eq k 1)) (hB _ (k1_off16_inb k 1) _ 5 (k1_off16_eq k 1)))
      (cnt4 v c2 (hB _ (k1_off13_inb k 0) _ 2 (k1_off13_eq k 0)) (hB _ (k1_off17_inb k 0) _ 6 (k1_off17_eq k 0)) (hB _ (k1_off13_inb k 1) _ 2 (k1_off13_eq k 1)) (hB _ (k1_off17_inb k 1) _ 6 (k1_off17_eq k 1)))
      (cnt4 v c3 (hB _ (k1_off14_inb k 0) _ 3 (k1_off14_eq k 0)) (hB _ (k1_off18_inb k 0) _ 7 (k1_off18_eq k 0)) (hB _ (k1_off14_inb k 1) _ 3 (k1_off14_eq k 1)) (hB _ (k1_off18_inb k 1) _ 7 (k1_off18_eq k 1)))
  · isplitl [Ha] <;> iassumption

/-- The state between two trips: the two blocks, and the running vectors of the rows done. -/
def inv2 (d : Dev nD) (L : grid1.Coords)
    (X : Buf (Elt F) ((aV).view.loc (VT d L))) (Y : Buf (Elt F) ((bV).view.loc (VT d L))) (v : FVec F S16 .f32)
    (k : ℕ) (c : Acc F) : sProp 𝕄 :=
  iprop(⌜c = rows v X Y (2 * k + 96)⌝
    ∗ ((aV).view.loc (VT d L) ↦[(aV).view.setOn hiR.set]{fullShare} X)
    ∗ ((bV).view.loc (VT d L) ↦[(bV).view.setOn hiR.set]{fullShare} Y))

/-- A trip carries it on. -/
theorem trip2_inv (d : Dev nD) (L : grid1.Coords)
    (X : Buf (Elt F) ((aV).view.loc (VT d L))) (Y : Buf (Elt F) ((bV).view.loc (VT d L)))
    (v : FVec F S16 .f32) (k : Fin k1_t2_loop.trips) (c : Acc F) :
    inv2 d L X Y v k.val c
      ⊢ wp frame (wpE (defs₀ (F := F)) 𝒱₀ (VT d L) none) Set.univ
          (k1_t2_body L pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1 v k c)
          fun c' => inv2 d L X Y v (k.val + 1) c' := by
  unfold inv2
  iintro ⟨%hc, Ha, Hb⟩
  iapply ((trip2 d L X Y v k c).trans (wp_mono frame _ _ fun c' => by
    iintro ⟨%hc', Ha, Hb⟩
    isplitr
    · ipureintro
      rw [hc', hc, show 2 * (k.val + 1) + 96 = (2 * k.val + 0 + 96) + 1 + 1 by omega]
      rw [show 2 * k.val + 1 + 96 = 2 * k.val + 0 + 96 + 1 by omega]; rfl
    · isplitl [Ha] <;> iassumption))
  isplitl [Ha] <;> iassumption

end Cert.RunKernelIdeal

end
-- ==== Proof.KernelIdeal.Tile.lean ====
/-
  A tile's run: its blocks fetched, the running vectors over all 200 rows, the partial results written to its row.
-/
module

public import proofs.«01_k».proof.Proof.KernelIdeal.Trips

@[expose] public section

noncomputable section

namespace Cert.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The six transfer cells of a tile at zero. -/
abbrev cells0 (d : Dev nD) (L : grid1.Coords) : sProp 𝕄 :=
  iprop(semVal (VT d L, SemLoc.dma cc1_scratch4.sem) 0 ∗ semVal (VT d L, SemLoc.dma cc1_scratch5.sem) 0
    ∗ semVal (VT d L, SemLoc.dma cc1_scratch6.sem) 0 ∗ semVal (VT d L, SemLoc.dma cc1_scratch7.sem) 0
    ∗ semVal (VT d L, SemLoc.dma cc1_scoped0.sem) 0 ∗ semVal (VT d L, SemLoc.dma cc1_scoped1.sem) 0)

/-- What a tile leaves: the inputs as they were, its row of the partial results, its scratch at something, its cells at
    zero, and no wait but of its own transfers. -/
def tilePost (d : Dev nD) (L : grid1.Coords) (q : PosShare TreeShare)
    (O : CellTallies nD τ sig (HIx 1)) (W : Waits sig (HIx 1))
    (P : Buf (Elt F) ((pV).view.loc (VT d L))) (Q : Buf (Elt F) ((tV).view.loc (VT d L))) (vv : Buf (Elt F) ((vV).view.loc (VT d L))) : sProp 𝕄 :=
  iprop(((pV).view.loc (VT d L) ↦{Transfers.shareTokN q 0} P)
        ∗ ((pV).view.loc (VT d L) ↦{Transfers.shareTokN q 1} P)
        ∗ ((tV).view.loc (VT d L) ↦{Transfers.shareTokN q 0} Q)
        ∗ ((tV).view.loc (VT d L) ↦{Transfers.shareTokN q 1} Q)
        ∗ ((vV).view.loc (VT d L) ↦{q} vv)
        ∗ ((oRow L).view.loc (VT d L) ↦[(oRow L).view.set]{fullShare} (parts P Q vv : S32x32.Idx → F .f32))
        ∗ (∃ f, (aV).view.loc (VT d L) ↦[(aV).view.setOn loR.set]{fullShare} f)
        ∗ (∃ f, (aV).view.loc (VT d L) ↦[(aV).view.setOn hiR.set]{fullShare} f)
        ∗ (∃ f, (bV).view.loc (VT d L) ↦[(bV).view.setOn loR.set]{fullShare} f)
        ∗ (∃ f, (bV).view.loc (VT d L) ↦[(bV).view.setOn hiR.set]{fullShare} f)
        ∗ (∃ f, (wV).view.loc (VT d L) ↦[(wV).view.set]{fullShare} f)
        ∗ (∃ f, (rV).view.loc (VT d L) ↦[(rV).view.set]{fullShare} f)
        ∗ cells0 d L
        ∗ ∃ W', ⌜∀ p ∈ W', p ∈ W ∨ p.2 = none⌝ ∗ owes (VT d L) O W')

/-- The first 96 rows of the block a tile fetches, where the program reads them; -/
theorem block_lo (L : grid1.Coords) (A : S200x16384.Idx → F .f32) (x : S96x128.Idx) :
    A ((Rect.unit (s := S200x16384) (k1_off1 L) S96x128.size (k1_off1_inb L)).emb x)
      = blockOf (wid L) A ((Rect.unit (s := S200x128) ![0, 0] S96x128.size inb_S200x128_S96x128_0_0).emb x) := by
  have h0 : (x 0).val < 96 := (x 0).isLt
  have h1 : (x 1).val < 128 := (x 1).isLt
  have hl0 : (L 0).val < 2 := (L 0).isLt
  have hl1 : (L 1).val < 16 := (L 1).isLt
  have e := k1_off1_eq L
  show A _ = A _
  congr 1
  funext a
  apply Fin.ext
  match a with
  | 0 =>
    show k1_off1 L 0 + 1 * (x 0).val = (0 + 1 * (x 0).val) % 200
    rw [e, Nat.mod_eq_of_lt (by omega)]; rfl
  | 1 =>
    show k1_off1 L 1 + 1 * (x 1).val = (128 * wid L + (0 + 1 * (x 1).val)) % 16384
    rw [e, Nat.mod_eq_of_lt (by unfold wid; omega)]
    show 256 * (L 1).val + 128 * (L 0).val + 1 * (x 1).val = _
    unfold wid; omega

/-- and the other 104. -/
theorem block_hi (L : grid1.Coords) (A : S200x16384.Idx → F .f32) (x : S104x128.Idx) :
    A ((Rect.unit (s := S200x16384) (k1_off2 L) S104x128.size (k1_off2_inb L)).emb x)
      = blockOf (wid L) A ((Rect.unit (s := S200x128) ![96, 0] S104x128.size inb_S200x128_S104x128_96_0).emb x) := by
  have h0 : (x 0).val < 104 := (x 0).isLt
  have h1 : (x 1).val < 128 := (x 1).isLt
  have hl0 : (L 0).val < 2 := (L 0).isLt
  have hl1 : (L 1).val < 16 := (L 1).isLt
  have e := k1_off2_eq L
  show A _ = A _
  congr 1
  funext a
  apply Fin.ext
  match a with
  | 0 =>
    show k1_off2 L 0 + 1 * (x 0).val = (96 + 1 * (x 0).val) % 200
    rw [e, Nat.mod_eq_of_lt (by omega)]; rfl
  | 1 =>
    show k1_off2 L 1 + 1 * (x 1).val = (128 * wid L + (0 + 1 * (x 1).val)) % 16384
    rw [e, Nat.mod_eq_of_lt (by unfold wid; omega)]
    show 256 * (L 1).val + 128 * (L 0).val + 1 * (x 1).val = _
    unfold wid; omega

/-- A buffer whose first 96 rows a landing covered holds the landed values there; -/
theorem lo_block (d : Dev nD) (L : grid1.Coords) (m : Memref sig .scVector .vmem S200x128 .f32)
    (X : Buf (Elt F) (m.view.loc (VT d L))) (g : Buf (Elt F) ((lo m).view.loc (VT d L)))
    (pay : S96x128.Idx → F .f32) (h : ∀ x, pay x = View.read (Elt F) (lo m).view X x) :
    ((lo m).view.loc (VT d L) ↦[(lo m).view.set]{fullShare} (lo m).view.writes (Elt F) g [⟨Rect.whole S96x128, pay⟩] : sProp 𝕄)
      = m.view.loc (VT d L) ↦[m.view.setOn loR.set]{fullShare} X := by
  rw [show (lo m).view.set = m.view.setOn loR.set from View.set_slice _ _]
  refine pointsTo_congr fun i hi => ?_
  rw [← show (lo m).view.set = m.view.setOn loR.set from View.set_slice _ _] at hi
  obtain ⟨x, -, rfl⟩ := Finset.mem_map.mp hi
  have e := congrFun (View.read_writes_whole (Val := Elt F) (lo m).view g pay) x
  rw [h x, View.read_apply, View.read_apply] at e
  exact (cast_inj _).mp e

/-- the same for the other rows. -/
theorem hi_block (d : Dev nD) (L : grid1.Coords) (m : Memref sig .scVector .vmem S200x128 .f32)
    (X : Buf (Elt F) (m.view.loc (VT d L))) (g : Buf (Elt F) ((hi m).view.loc (VT d L)))
    (pay : S104x128.Idx → F .f32) (h : ∀ x, pay x = View.read (Elt F) (hi m).view X x) :
    ((hi m).view.loc (VT d L) ↦[(hi m).view.set]{fullShare} (hi m).view.writes (Elt F) g [⟨Rect.whole S104x128, pay⟩] : sProp 𝕄)
      = m.view.loc (VT d L) ↦[m.view.setOn hiR.set]{fullShare} X := by
  rw [show (hi m).view.set = m.view.setOn hiR.set from View.set_slice _ _]
  refine pointsTo_congr fun i him => ?_
  rw [← show (hi m).view.set = m.view.setOn hiR.set from View.set_slice _ _] at him
  obtain ⟨x, -, rfl⟩ := Finset.mem_map.mp him
  have e := congrFun (View.read_writes_whole (Val := Elt F) (hi m).view g pay) x
  rw [h x, View.read_apply, View.read_apply] at e
  exact (cast_inj _).mp e

/-- Where a tile's row of partial results lies in the whole array. -/
theorem oRow_at (L : grid1.Coords) (x : S32.Idx) (P Q : S200x16384.Idx → F .f32) (v : S16.Idx → F .f32) :
    (parts P Q v) ((oRow L).view.emb x) = tileOut (wid L) P Q v (x 0).val := by
  have hl0 : (L 0).val < 2 := (L 0).isLt
  have e := k1_off19_eq L
  have hr : (Shape.reshapeEquiv squeezes_S1x32_S32.numel_eq x : S1x32.Idx) = Fin.cons ⟨0, Nat.one_pos⟩ x :=
    Shape.reshapeEquiv_cons_one (d := ![32]) squeezes_S1x32_S32.numel_eq x
  have h0 : ((oRow L).view.emb x 0).val = wid L := by
    show k1_off19 L 0 + 1 * ((Shape.reshapeEquiv squeezes_S1x32_S32.numel_eq x : S1x32.Idx) 0).val = _
    rw [hr, e]; rfl
  have h1 : ((oRow L).view.emb x 1).val = (x 0).val := by
    show k1_off19 L 1 + 1 * ((Shape.reshapeEquiv squeezes_S1x32_S32.numel_eq x : S1x32.Idx) 1).val = _
    rw [hr, e]
    show 0 + 1 * (x 0).val = _
    omega
  unfold parts
  show tileOut ((oRow L).view.emb x 0).val P Q v ((oRow L).view.emb x 1).val = _
  rw [h0, h1]

/-- A tile's run. -/
theorem tile_run (d : Dev nD) (L : grid1.Coords) (q : PosShare TreeShare)
    (O : CellTallies nD τ sig (HIx 1)) (W : Waits sig (HIx 1))
    (P : Buf (Elt F) ((pV).view.loc (VT d L))) (Q : Buf (Elt F) ((tV).view.loc (VT d L))) (vv : Buf (Elt F) ((vV).view.loc (VT d L)))
    (o0 : Buf (Elt F) ((oRow L).view.loc (VT d L)))
    (a0 : Buf (Elt F) ((aV).view.loc (VT d L))) (b0 : Buf (Elt F) ((bV).view.loc (VT d L)))
    (w0 : Buf (Elt F) ((wV).view.loc (VT d L))) (r0 : Buf (Elt F) ((rV).view.loc (VT d L))) :
    (iprop(Transfers.MayWaits (VT d L) (default : HIx 1) O
        ∗ ((pV).view.loc (VT d L) ↦{Transfers.shareTokN q 0} P)
        ∗ ((pV).view.loc (VT d L) ↦{Transfers.shareTokN q 1} P)
        ∗ ((tV).view.loc (VT d L) ↦{Transfers.shareTokN q 0} Q)
        ∗ ((tV).view.loc (VT d L) ↦{Transfers.shareTokN q 1} Q)
        ∗ ((vV).view.loc (VT d L) ↦{q} vv)
        ∗ ((oRow L).view.loc (VT d L) ↦[(oRow L).view.set]{fullShare} o0)
        ∗ ((lo aV).view.loc (VT d L) ↦[(lo aV).view.set]{fullShare} a0)
        ∗ ((hi aV).view.loc (VT d L) ↦[(hi aV).view.set]{fullShare} a0)
        ∗ ((lo bV).view.loc (VT d L) ↦[(lo bV).view.set]{fullShare} b0)
        ∗ ((hi bV).view.loc (VT d L) ↦[(hi bV).view.set]{fullShare} b0)
        ∗ ((wV).view.loc (VT d L) ↦[(wV).view.set]{fullShare} w0)
        ∗ ((rV).view.loc (VT d L) ↦[(rV).view.set]{fullShare} r0)
        ∗ cells0 d L
        ∗ owes (VT d L) O W) : sProp 𝕄)
      ⊢ wp frame (wpE (defs₀ (F := F)) 𝒱₀ (VT d L) none) Set.univ
          (cc1__sc_partial_sums L pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1)
          fun _ => tilePost d L q O W P Q vv := by
  unfold cells0 lo hi oRow pV tV vV oV aV bV wV rV
  iintro ⟨#Hmw, HP0, HP1, HQ0, HQ1, Hv, Ho, Ha0, Ha1, Hb0, Hb1, Hw, Hr, ⟨Hs0, Hs1, Hs2, Hs3, Hs4, Hs5⟩, HO⟩
  sl_unfold [cc1__sc_partial_sums]
  sl_exec
  have hdma0 : ∀ x, tile_run.sl.dma0 d L P x = P ((Rect.unit (s := S200x16384) (k1_off1 L) S96x128.size (k1_off1_inb L)).emb x) := fun x => rfl
  have hdma1 : ∀ x, tile_run.sl.dma0_1 d L Q x = Q ((Rect.unit (s := S200x16384) (k1_off1 L) S96x128.size (k1_off1_inb L)).emb x) := fun x => rfl
  have hdma2 : ∀ x, tile_run.sl.dma0_2 d L P x = P ((Rect.unit (s := S200x16384) (k1_off2 L) S104x128.size (k1_off2_inb L)).emb x) := fun x => rfl
  have hdma3 : ∀ x, tile_run.sl.dma0_3 d L Q x = Q ((Rect.unit (s := S200x16384) (k1_off2 L) S104x128.size (k1_off2_inb L)).emb x) := fun x => rfl
  have hr : tile_run.sl.r d L vv = k1_pay134 vv := by
    unfold tile_run.sl.r
    congr 1
    unfold tile_run.sl.v19
    unfold tile_run.sl.dma0_4
    funext x
    show View.read (Elt F) (Memref.whole cc1_scratch2).view ((Memref.whole cc1_scratch2).view.writes (Elt F) _ [⟨Rect.whole S16, _⟩])
      ((Rect.unit ![0] S16.size inb_S16_S16_0).toLoadRect.idx x) = _
    refine (View.read_writes_cons_hit_of_coords _ _ (Rect.whole S16) _ [] x _ ?_).trans ?_
    · intro a
      match a with
      | 0 => rfl
    · rfl
  rw [hr]
  ihave Ha0 := (Entails.of_eq (lo_block d L aV (blockOf (wid L) P) _ _ (fun x => (hdma0 x).trans (block_lo L P x)))) $$ Ha0
  ihave Hb0 := (Entails.of_eq (lo_block d L bV (blockOf (wid L) Q) _ _ (fun x => (hdma1 x).trans (block_lo L Q x)))) $$ Hb0
  sl_for (inv1 d L (blockOf (wid L) P) (blockOf (wid L) Q) (k1_pay134 vv)) $$ [Ha0 Hb0]
  case region =>
    intro k c
    exact trip1_inv d L _ _ _ _ _ k c
  · unfold inv1
    isplitr
    · ipureintro; rfl
    · isplitl [Ha0] <;> iassumption
  iintro %c HI
  unfold inv1
  icases HI with ⟨%hc, Ha0, Hb0⟩
  sl_exec
  ihave Ha1 := (Entails.of_eq (hi_block d L aV (blockOf (wid L) P) _ _ (fun x => (hdma2 x).trans (block_hi L P x)))) $$ Ha1
  ihave Hb1 := (Entails.of_eq (hi_block d L bV (blockOf (wid L) Q) _ _ (fun x => (hdma3 x).trans (block_hi L Q x)))) $$ Hb1
  sl_for (inv2 d L (blockOf (wid L) P) (blockOf (wid L) Q) (k1_pay134 vv)) $$ [Ha1 Hb1]
  case region =>
    intro k c
    exact trip2_inv d L _ _ _ k c
  · unfold inv2
    isplitr
    · ipureintro; exact hc
    · isplitl [Ha1] <;> iassumption
  iintro %c2 HI
  unfold inv2
  icases HI with ⟨%hc2, Ha1, Hb1⟩
  sl_exec
  have hc3 : c2 = tileAcc (wid L) P Q vv := hc2
  have hdma4 : ∀ x, tile_run.sl.dma4 d L r0 c2 x = tileOut (wid L) P Q vv (x 0).val := by
    intro x
    unfold tile_run.sl.dma4 tile_run.sl.Hr_2
    rw [hc3]
    have hx : (x 0).val < 32 := (x 0).isLt
    show View.read (Elt F) (Memref.whole cc1_scratch3).view ((Memref.whole cc1_scratch3).view.writes (Elt F) r0 _) x = _
    rcases lt_or_ge (x 0).val 16 with hlt | hge
    · refine (View.read_writes_cons_miss _ _ _ _ x ?_).trans ?_
      · intro hm
        have := (Rect.mem_set_unit (s := S32) (off := ![16]) (size := S16.size) (inb := inb_S32_S16_16)).mp hm 0 |>.1
        exact absurd this (Nat.not_le.mpr hlt)
      · refine (View.read_writes_cons_hit_of_coords _ _ _ _ [] (lane (x 0).val) x ?_).trans ?_
        · intro a
          match a with
          | 0 => show (x 0).val = 0 + 1 * ((x 0).val % 16); rw [Nat.mod_eq_of_lt hlt]; omega
        · unfold tileOut; rw [if_pos hlt]; rfl
    · refine (View.read_writes_cons_hit_of_coords _ _ _ _ _ (lane (x 0).val) x ?_).trans ?_
      · intro a
        match a with
        | 0 => show (x 0).val = 16 + 1 * ((x 0).val % 16); omega
      · unfold tileOut; rw [if_neg (Nat.not_lt.mpr hge)]; rfl
  have hout : ∀ i ∈ (oRow L).view.set, (oRow L).view.writes (Elt F) o0 [⟨Rect.whole S32, tile_run.sl.dma4 d L r0 c2⟩] i
      = (parts P Q vv : S32x32.Idx → F .f32) i := by
    intro i hi
    obtain ⟨x, -, rfl⟩ := Finset.mem_map.mp hi
    have e := congrFun (View.read_writes_whole (Val := Elt F) (oRow L).view o0 (tile_run.sl.dma4 d L r0 c2)) x
    rw [hdma4 x, View.read_apply] at e
    exact (show _ = _ from e).trans (oRow_at L x P Q vv).symm
  sl_step
  unfold tilePost
  isplitl [HP0]; · iexact HP0
  isplitl [HP1]; · iexact HP1
  isplitl [HQ0]; · iexact HQ0
  isplitl [HQ1]; · iexact HQ1
  isplitl [Hv]; · iexact Hv
  isplitl [Ho]; · iapply (Entails.of_eq (pointsTo_congr hout)); iexact Ho
  isplitl [Ha0]; · iexists _; iexact Ha0
  isplitl [Ha1]; · iexists _; iexact Ha1
  isplitl [Hb0]; · iexists _; iexact Hb0
  isplitl [Hb1]; · iexists _; iexact Hb1
  isplitl [Hw]; · iexists _; iexact Hw
  isplitl [Hr]; · iexists _; iexact Hr
  isplitl [Hs0 Hs1 Hs2 Hs3 Hs4 Hs5]
  · isplitl [Hs0]; · iexact Hs0
    isplitl [Hs1]; · iexact Hs1
    isplitl [Hs2]; · iexact Hs2
    isplitl [Hs3]; · iexact Hs3
    isplitl [Hs4]; · iexact Hs4
    iexact Hs5
  iexists _
  isplitr
  swap
  · iexact HO
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

end Cert.RunKernelIdeal

end
-- ==== Proof.KernelIdeal.Deal.lean ====
/-
  How the SparseCore call deals its arrays: every tile gets a read share of each whole input and its own row of the
  array of partial results, and a tile's run is made the call's obligation.
-/
module

public import proofs.«01_k».proof.Proof.KernelIdeal.Tile

@[expose] public section

noncomputable section

namespace Cert.RunKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays of the call and how they are cut -/

abbrev pLoc (d : Dev nD) : Loc nD τ sig := (SparseCore.T d).loc main_v2
abbrev tLoc (d : Dev nD) : Loc nD τ sig := (SparseCore.T d).loc main_v3
abbrev vLoc (d : Dev nD) : Loc nD τ sig := (SparseCore.T d).loc main_v1
abbrev oLoc (d : Dev nD) : Loc nD τ sig := (SparseCore.T d).loc main_v6

/-- The share of a whole input that SparseCore `c` reads with, -/
def cq (c : Fin 2) : PosShare TreeShare := Transfers.dealOf fullShare Finset.univ c
/-- and the part of it for its tile `i`. -/
def tq (c : Fin 2) (i : Fin 16) : PosShare TreeShare := Transfers.dealOf (cq c) Finset.univ i

/-- Row `w` of the array of partial results, -/
def rowSet (w : ℕ) : Finset S32x32.Idx := Finset.univ.filter fun x => (x 0).val = w
/-- and the rows of SparseCore `c`'s tiles. -/
def coreRows (c : ℕ) : Finset S32x32.Idx := Finset.univ.filter fun x => (x 0).val % 2 = c

theorem coreRows_eq (c : Fin 2) : coreRows c.val = Finset.univ.biUnion fun i : Fin 16 => rowSet (2 * i.val + c.val) := by
  ext x
  have hx : (x 0).val < 32 := (x 0).isLt
  simp only [coreRows, rowSet, Finset.mem_filter, Finset.mem_univ, true_and, Finset.mem_biUnion]
  constructor
  · intro h; exact ⟨⟨(x 0).val / 2, by omega⟩, by show _ = 2 * ((x 0).val / 2) + _; omega⟩
  · rintro ⟨i, h⟩; omega

theorem all_rows : (Finset.univ : Finset S32x32.Idx) = Finset.univ.biUnion fun c : Fin 2 => coreRows c.val := by
  ext x
  simp only [coreRows, Finset.mem_filter, Finset.mem_univ, true_and, Finset.mem_biUnion, true_iff]
  exact ⟨⟨(x 0).val % 2, Nat.mod_lt _ (by decide)⟩, rfl⟩

theorem rows_disjoint (c : Fin 2) : ∀ i ∈ (Finset.univ : Finset (Fin 16)), ∀ j ∈ (Finset.univ : Finset (Fin 16)), i ≠ j →
    Disjoint (rowSet (2 * i.val + c.val)) (rowSet (2 * j.val + c.val)) := by
  intro i _ j _ h
  refine Finset.disjoint_left.mpr fun x hi hj => h (Fin.ext ?_)
  simp only [rowSet, Finset.mem_filter, Finset.mem_univ, true_and] at hi hj
  omega

theorem cores_disjoint : ∀ i ∈ (Finset.univ : Finset (Fin 2)), ∀ j ∈ (Finset.univ : Finset (Fin 2)), i ≠ j →
    Disjoint (coreRows i.val) (coreRows j.val) := by
  intro i _ j _ h
  refine Finset.disjoint_left.mpr fun x hi hj => h (Fin.ext ?_)
  simp only [coreRows, Finset.mem_filter, Finset.mem_univ, true_and] at hi hj
  omega

/-- The row a tile writes is the row of its number. -/
theorem oRow_set (L : grid1.Coords) : (oRow L).view.set = rowSet (wid L) := by
  show ((oV.view.slice (Rect.unit (s := S32x32) (k1_off19 L) S1x32.size (k1_off19_inb L))).reshape S32 squeezes_S1x32_S32.numel_eq).set = _
  rw [View.set_reshape]
  show ((View.whole (main_v6_scv : Ref sig .scVector)).slice _).set = _
  rw [View.set_slice]
  refine (Finset.map_refl).trans ?_
  ext x
  have e := k1_off19_eq L
  have hx : (x 1).val < 32 := (x 1).isLt
  simp only [rowSet, Finset.mem_filter, Finset.mem_univ, true_and]
  refine Rect.mem_set_unit.trans ?_
  constructor
  · intro h
    have h0 := h 0
    rw [e] at h0
    have h1 : wid L ≤ (x 0).val := h0.1
    have h2 : (x 0).val < wid L + 1 := h0.2
    omega
  · intro h a
    rw [e]
    match a with
    | 0 => exact ⟨le_of_eq h.symm, (h ▸ Nat.lt_succ_self _ : (x 0).val < wid L + 1)⟩
    | 1 => exact ⟨Nat.zero_le _, by show (x 1).val < 0 + 32; omega⟩

/-! ## A tile's scratch and cells among its own -/

section Own

variable (d : Dev nD) (L : grid1.Coords)

/-- The four scratch buffers of a tile. -/
def scratchRefs : Finset (DevRef τ sig) :=
  {(Proc.scVector (cV L) (jV L)).devRef cc1_scratch0, (Proc.scVector (cV L) (jV L)).devRef cc1_scratch1,
    (Proc.scVector (cV L) (jV L)).devRef cc1_scratch2, (Proc.scVector (cV L) (jV L)).devRef cc1_scratch3}

theorem devRef_ne {a b : Ref sig .scVector} (h : a ≠ b) :
    (Proc.scVector (cV L) (jV L)).devRef a ≠ (Proc.scVector (cV L) (jV L)).devRef b :=
  fun e => h (Proc.devRef_injective _ e)

theorem ownBufs_tile :
    (ownBufs (VT d L) : sProp 𝕄)
      = iprop(((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f))
          ∗ bigSep (ownRefs (τ := τ) (.scVector (cV L) (jV L)) \ scratchRefs L) fun b => iprop(∃ f, ((d, b) : Loc nD τ sig) ↦{fullShare} f)) := by
  unfold SparseCore.Cfg.ownBufs
  refine (SparseCore.bigSep_sdiff_split' (t := scratchRefs L) ?_).trans ?_
  · intro b hb
    simp only [scratchRefs, Finset.mem_insert, Finset.mem_singleton] at hb
    rcases hb with rfl | rfl | rfl | rfl <;> exact SparseCore.Cfg.mem_ownRefs_of_owner (p := Proc.scVector (cV L) (jV L)) rfl
  · unfold scratchRefs
    rw [SparseCore.bigSep_insert', SparseCore.bigSep_insert', SparseCore.bigSep_insert', bigSep_singleton]
    all_goals
      simp only [Finset.mem_insert, Finset.mem_singleton, not_or]
      first
        | exact devRef_ne L (by decide)
        | exact ⟨devRef_ne L (by decide), devRef_ne L (by decide)⟩
        | exact ⟨devRef_ne L (by decide), devRef_ne L (by decide), devRef_ne L (by decide)⟩

/-- The six transfer cells of a tile. -/
def tileCells : Finset (GSem nD τ sig) :=
  {(VT d L, SemLoc.dma cc1_scratch4.sem), (VT d L, SemLoc.dma cc1_scratch5.sem), (VT d L, SemLoc.dma cc1_scratch6.sem),
    (VT d L, SemLoc.dma cc1_scratch7.sem), (VT d L, SemLoc.dma cc1_scoped0.sem), (VT d L, SemLoc.dma cc1_scoped1.sem)}

theorem cell_ne {a b : SemLoc sig} (h : a ≠ b) : ((VT d L, a) : GSem nD τ sig) ≠ (VT d L, b) :=
  fun e => h (congrArg Prod.snd e)

theorem ownSems0_tile :
    (ownSems0 (VT d L) : sProp 𝕄) = iprop(cells0 d L ∗ bigSep (ownCells (VT d L) \ tileCells d L) fun g => semVal g 0) := by
  unfold SparseCore.Cfg.ownSems0
  refine (SparseCore.bigSep_sdiff_split' (t := tileCells d L) ?_).trans ?_
  · intro g hg
    simp only [tileCells, Finset.mem_insert, Finset.mem_singleton] at hg
    rcases hg with rfl | rfl | rfl | rfl | rfl | rfl
    · exact mem_ownCells.mpr ⟨rfl, by show (SemLoc.dma cc1_scratch4.sem : SemLoc sig).isScoped .scVector = true; decide⟩
    · exact mem_ownCells.mpr ⟨rfl, by show (SemLoc.dma cc1_scratch5.sem : SemLoc sig).isScoped .scVector = true; decide⟩
    · exact mem_ownCells.mpr ⟨rfl, by show (SemLoc.dma cc1_scratch6.sem : SemLoc sig).isScoped .scVector = true; decide⟩
    · exact mem_ownCells.mpr ⟨rfl, by show (SemLoc.dma cc1_scratch7.sem : SemLoc sig).isScoped .scVector = true; decide⟩
    · exact mem_ownCells.mpr ⟨rfl, by show (SemLoc.dma cc1_scoped0.sem : SemLoc sig).isScoped .scVector = true; decide⟩
    · exact mem_ownCells.mpr ⟨rfl, by show (SemLoc.dma cc1_scoped1.sem : SemLoc sig).isScoped .scVector = true; decide⟩
  · unfold tileCells
    rw [SparseCore.bigSep_insert', SparseCore.bigSep_insert', SparseCore.bigSep_insert', SparseCore.bigSep_insert',
      SparseCore.bigSep_insert', bigSep_singleton]
    all_goals
      simp only [Finset.mem_insert, Finset.mem_singleton, not_or]
      first
        | exact cell_ne d L (by decide)
        | exact ⟨cell_ne d L (by decide), cell_ne d L (by decide)⟩
        | exact ⟨cell_ne d L (by decide), cell_ne d L (by decide), cell_ne d L (by decide)⟩
        | exact ⟨cell_ne d L (by decide), cell_ne d L (by decide), cell_ne d L (by decide), cell_ne d L (by decide)⟩
        | exact ⟨cell_ne d L (by decide), cell_ne d L (by decide), cell_ne d L (by decide), cell_ne d L (by decide), cell_ne d L (by decide)⟩

/-- A fetched block is its first 96 rows and its other rows, -/
theorem halves_cover (m : Memref sig .scVector .vmem S200x128 .f32) : m.view.setOn loR.set ∪ m.view.setOn hiR.set = m.view.set := by
  show Finset.map _ _ ∪ Finset.map _ _ = Finset.map _ _
  rw [← Finset.map_union]
  refine congrArg (Finset.map m.view.emb) (Finset.ext fun x => ?_)
  have h0 : (x 0).val < 200 := (x 0).isLt
  have h1 : (x 1).val < 128 := (x 1).isLt
  simp only [Finset.mem_union, Finset.mem_univ, iff_true]
  rcases lt_or_ge (x 0).val 96 with h | h
  · refine .inl (Rect.mem_set_unit.mpr fun a => ?_)
    match a with
    | 0 => exact ⟨Nat.zero_le _, by show (x 0).val < 0 + 96; omega⟩
    | 1 => exact ⟨Nat.zero_le _, by show (x 1).val < 0 + 128; omega⟩
  · refine .inr (Rect.mem_set_unit.mpr fun a => ?_)
    match a with
    | 0 => exact ⟨h, by show (x 0).val < 96 + 104; omega⟩
    | 1 => exact ⟨Nat.zero_le _, by show (x 1).val < 0 + 128; omega⟩

/-- which have no row in common. -/
theorem halves_disjoint (m : Memref sig .scVector .vmem S200x128 .f32) : Disjoint (m.view.setOn loR.set) (m.view.setOn hiR.set) := by
  show Disjoint (Finset.map _ _) (Finset.map _ _)
  rw [Finset.disjoint_map]
  refine Finset.disjoint_left.mpr fun x hl hh => ?_
  have h1 : (x 0).val < 0 + 96 := (Rect.mem_set_unit.mp hl 0).2
  have h2 : 96 ≤ (x 0).val := (Rect.mem_set_unit.mp hh 0).1
  omega

theorem halves_split (m : Memref sig .scVector .vmem S200x128 .f32) (f : Buf (Elt F) (m.view.loc (VT d L))) :
    (m.view.loc (VT d L) ↦[m.view.set]{fullShare} f : sProp 𝕄)
      ⊢ iprop(((lo m).view.loc (VT d L) ↦[(lo m).view.set]{fullShare} f) ∗ (hi m).view.loc (VT d L) ↦[(hi m).view.set]{fullShare} f) := by
  rw [show (lo m).view.set = m.view.setOn loR.set from View.set_slice _ _, show (hi m).view.set = m.view.setOn hiR.set from View.set_slice _ _,
    ← halves_cover m]
  exact (pointsTo_union (halves_disjoint m)).1

theorem halves_join (m : Memref sig .scVector .vmem S200x128 .f32) (f g : Buf (Elt F) (m.view.loc (VT d L))) :
    iprop((m.view.loc (VT d L) ↦[m.view.setOn loR.set]{fullShare} f) ∗ m.view.loc (VT d L) ↦[m.view.setOn hiR.set]{fullShare} g)
      ⊢ (iprop(∃ f, m.view.loc (VT d L) ↦[m.view.set]{fullShare} f) : sProp 𝕄) := by
  rw [← halves_cover m]
  refine (pointsTo_join (halves_disjoint m)).trans ?_
  iintro H
  iexists _
  iexact H

end Own

/-- A read share as what stays aside and two read tokens. -/
theorem two_toks {ℓ : Loc nD τ sig} (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h := Transfers.pointsTo_toks_range (nD := nD) (τ := τ) (sig := sig) (Ix := HIx 1) (Val := Elt F) (Name := ℕ) (U := UU) (Lvl := ℕ)
    (ℓ := ℓ) (S := Finset.univ) (f := f) q 2
  rw [show Finset.range 2 = {0, 1} by decide, SparseCore.bigSep_insert' (by decide), bigSep_singleton] at h
  exact h

/-! ## What the handshakes carry -/

variable [FloatOps F]

variable (P Q : Dev nD → S200x16384.Idx → F .f32) (v : Dev nD → S16.Idx → F .f32) (o : Dev nD → S32x32.Idx → F .f32)

/-- A core's shares of the whole inputs, -/
abbrev inShares (d : Dev nD) (q : PosShare TreeShare) : sProp 𝕄 :=
  iprop((pLoc d ↦{q} (P d : Buf (Elt F) (pLoc d))) ∗ (tLoc d ↦{q} (Q d : Buf (Elt F) (tLoc d))) ∗ (vLoc d ↦{q} (v d : Buf (Elt F) (vLoc d))))
/-- and some rows of the array of partial results. -/
abbrev outRows (d : Dev nD) (R : Finset S32x32.Idx) (f : S32x32.Idx → F .f32) : sProp 𝕄 :=
  oLoc d ↦[R]{fullShare} (f : Buf (Elt F) (oLoc d))

/-- What the call's signals carry: to a SparseCore its share of the inputs and its rows at what they hold, to a tile
    its own; back the same, the rows at the partial results. -/
def pay : (K (F := F)).Pay (nD := nD) (Val := Elt F) (Name := ℕ) (U := UU) where
  st := fun q d c => match q with | 0 => iprop(inShares P Q v d (cq c) ∗ outRows d (coreRows c.val) (o d))
  dn := fun q d c => match q with | 0 => iprop(inShares P Q v d (cq c) ∗ outRows d (coreRows c.val) (parts (P d) (Q d) (v d)))
  go := fun q d c i => match q with | 0 => iprop(inShares P Q v d (tq c i) ∗ outRows d (rowSet (2 * i.val + c.val)) (o d))
  td := fun q d c i => match q with
    | 0 => iprop(inShares P Q v d (tq c i) ∗ outRows d (rowSet (2 * i.val + c.val)) (parts (P d) (Q d) (v d)))
  x := fun _ _ => iprop(emp)

instance pay_storable : (pay P Q v o).IsStorable where
  st q d c := match q with
    | 0 => (inferInstance : BI.Storable (upEmb : UEmb _ 𝕄) iprop(inShares P Q v d (cq c) ∗ outRows d (coreRows c.val) (o d)))
  dn q d c := match q with
    | 0 => (inferInstance : BI.Storable (upEmb : UEmb _ 𝕄)
        iprop(inShares P Q v d (cq c) ∗ outRows d (coreRows c.val) (parts (P d) (Q d) (v d))))
  go q d c i := match q with
    | 0 => (inferInstance : BI.Storable (upEmb : UEmb _ 𝕄) iprop(inShares P Q v d (tq c i) ∗ outRows d (rowSet (2 * i.val + c.val)) (o d)))
  td q d c i := match q with
    | 0 => (inferInstance : BI.Storable (upEmb : UEmb _ 𝕄)
        iprop(inShares P Q v d (tq c i) ∗ outRows d (rowSet (2 * i.val + c.val)) (parts (P d) (Q d) (v d))))

/-! ## A tile's run from what the call deals it -/

/-- The task of tile `L`, from its shares, its row and its own scratch and cells, to the same with the row written. -/
theorem tile_body (d : Dev nD) (L : grid1.Coords) (q : PosShare TreeShare) (O : CellTallies nD τ sig (HIx 1)) (W : Waits sig (HIx 1))
    (hO : ∀ g, O g none = 0) :
    (iprop(levAts (K (F := F)).L (K (F := F)).lev ∗ emp
        ∗ (inShares P Q v d q ∗ outRows d (rowSet (wid L)) (o d))
        ∗ scopedBufs (VT d L) ∗ scopedSems0 (VT d L) ∗ owes (VT d L) O W) : sProp 𝕄)
      ⊢ wp frame (wpE (defs₀ (F := F)) 𝒱₀ (VT d L) none) Set.univ
          (cc1__sc_partial_sums L pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1)
          fun _ => iprop((inShares P Q v d q ∗ outRows d (rowSet (wid L)) (parts (P d) (Q d) (v d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cV L) (jV L), SparseCore.Cfg.scopedSems0_V (Val := Elt F) d (cV L) (jV L),
    ownSems0_tile, ownBufs_tile, ← oRow_set L]
  iintro ⟨#Hlv, -, ⟨⟨HP, HQ, Hv⟩, Ho⟩, ⟨⟨⟨%a0, Ha⟩, ⟨%b0, Hb⟩, ⟨%w0, Hw⟩, ⟨%r0, Hr⟩⟩, Hbufs⟩, ⟨Hc, Hsems⟩, HO⟩
  ihave Hmw := (show levAts (K (F := F)).L (K (F := F)).lev ⊢ Transfers.MayWaits (VT d L) (default : HIx 1) O from
    (K (F := F)).mayWaits_none (thr := VT d L) hO) $$ Hlv
  ihave HP' := (two_toks q _).1 $$ HP
  icases HP' with ⟨HPr, HP0, HP1⟩
  ihave HQ' := (two_toks q _).1 $$ HQ
  icases HQ' with ⟨HQr, HQ0, HQ1⟩
  ihave Ha' := ((Entails.of_eq (show ((VT d L).loc cc1_scratch0 ↦{fullShare} a0 : sProp 𝕄) = (aV).view.loc (VT d L) ↦[(aV).view.set]{fullShare} a0
    by rw [View.set_whole])).trans (halves_split d L aV a0)) $$ Ha
  icases Ha' with ⟨Ha0, Ha1⟩
  ihave Hb' := ((Entails.of_eq (show ((VT d L).loc cc1_scratch1 ↦{fullShare} b0 : sProp 𝕄) = (bV).view.loc (VT d L) ↦[(bV).view.set]{fullShare} b0
    by rw [View.set_whole])).trans (halves_split d L bV b0)) $$ Hb
  icases Hb' with ⟨Hb0, Hb1⟩
  ihave Hw' := (Entails.of_eq (show ((VT d L).loc cc1_scratch2 ↦{fullShare} w0 : sProp 𝕄) = (wV).view.loc (VT d L) ↦[(wV).view.set]{fullShare} w0
    by rw [View.set_whole])) $$ Hw
  ihave Hr' := (Entails.of_eq (show ((VT d L).loc cc1_scratch3 ↦{fullShare} r0 : sProp 𝕄) = (rV).view.loc (VT d L) ↦[(rV).view.set]{fullShare} r0
    by rw [View.set_whole])) $$ Hr
  iapply (wp_wand_r Idealize.ShloMosaic.frame (wpE (defs₀ (F := F)) 𝒱₀ (VT d L) none) Set.univ)
  isplitl [HP0 HP1 HQ0 HQ1 Hv Ho Ha0 Ha1 Hb0 Hb1 Hw' Hr' Hc HO]
  · iapply (tile_run d L q O W (P d) (Q d) (v d) (o d) a0 b0 w0 r0)
    isplitr; · iexact Hmw
    isplitl [HP0]; · iexact HP0
    isplitl [HP1]; · iexact HP1
    isplitl [HQ0]; · iexact HQ0
    isplitl [HQ1]; · iexact HQ1
    isplitl [Hv]; · iexact Hv
    isplitl [Ho]; · iexact Ho
    isplitl [Ha0]; · iexact Ha0
    isplitl [Ha1]; · iexact Ha1
    isplitl [Hb0]; · iexact Hb0
    isplitl [Hb1]; · iexact Hb1
    isplitl [Hw']; · iexact Hw'
    isplitl [Hr']; · iexact Hr'
    isplitl [Hc]; · iexact Hc
    iexact HO
  unfold tilePost
  iintro %_ ⟨HP0, HP1, HQ0, HQ1, Hv, Ho, ⟨%a1, Ha0⟩, ⟨%a2, Ha1⟩, ⟨%b1, Hb0⟩, ⟨%b2, Hb1⟩, ⟨%w1, Hw⟩, ⟨%r1, Hr⟩, Hc, %W', %hW', HO⟩
  ihave HP := (two_toks q _).2 $$ [HPr HP0 HP1]
  · isplitl [HPr]; · iexact HPr
    isplitl [HP0]; · iexact HP0
    iexact HP1
  ihave HQ := (two_toks q _).2 $$ [HQr HQ0 HQ1]
  · isplitl [HQr]; · iexact HQr
    isplitl [HQ0]; · iexact HQ0
    iexact HQ1
  ihave Ha := (halves_join d L aV a1 a2) $$ [Ha0 Ha1]
  · isplitl [Ha0] <;> iassumption
  ihave Hb := (halves_join d L bV b1 b2) $$ [Hb0 Hb1]
  · isplitl [Hb0] <;> iassumption
  isplitl [HP HQ Hv Ho]
  · isplitl [HP HQ Hv]
    · isplitl [HP]; · iexact HP
      isplitl [HQ]; · iexact HQ
      iexact Hv
    iexact Ho
  isplitl [Ha Hb Hw Hr Hbufs]
  · isplitr [Hbufs]
    · rw [View.set_whole, View.set_whole, View.set_whole, View.set_whole]
      isplitl [Ha]; · iexact Ha
      isplitl [Hb]; · iexact Hb
      isplitl [Hw]; · iexists w1; iexact Hw
      iexists r1; iexact Hr
    iexact Hbufs
  isplitl [Hc Hsems]
  · isplitl [Hc]; · iexact Hc
    iexact Hsems
  iexists W'
  isplitr
  · ipureintro; exact fun p hp => (hW' p hp).imp_right Or.inl
  · iexact HO

/-! ## The obligation -/

/-- The grid position of tile `s` of SparseCore `c`. -/
def tileAt (c : Fin (grid1.bound 0)) (s : Fin (grid1.bound 1)) : grid1.Coords :=
  fun | 0 => c | 1 => s | ⟨_ + 2, h⟩ => absurd h (Nat.not_lt.2 (Nat.le_add_left _ _))

theorem defs_tile (c : Fin τ.nSC) (s : Fin τ.nSub) :
    defs₀ (F := F) (.scVector c s) 1 ()
      = SparseCore.onTile hcore1 hsub1 (fun c s => cc1__sc_partial_sums (tileAt c s)
            pV (Memref.isWhole_whole _) tV (Memref.isWhole_whole _) vV (Memref.isWhole_whole _) oV (Memref.isWhole_whole _)
            aV (Memref.isWhole_whole _) bV (Memref.isWhole_whole _) wV (Memref.isWhole_whole _) rV (Memref.isWhole_whole _)
            cc1_scratch4 cc1_scratch5 cc1_scratch6 cc1_scratch7 cc1_scoped0 cc1_scoped1) ⟨⟩ c s := rfl

/-- Every tile keeps what the call asks of it. -/
theorem tileObl : (K (F := F)).TileObl (D (F := F)) 𝒱 (pay P Q v o) v₀ 0 := by
  intro d c i O W hO _ _
  simp only [show (pay P Q v o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact tile_body P Q v o d (tileAt ⟨_, hci.1⟩ ⟨_, hci.2⟩) (tq c i) O W hO

/-! ## The split among the tiles -/

theorem bigSep_sub (Φ : Fin 16 → sProp 𝕄) :
    (bigSep Finset.univ fun i : Fin ((K (F := F)).nSub 0) => Φ i) = bigSep Finset.univ Φ := rfl

theorem inShares_tiles (d : Dev nD) (c : Fin 2) :
    (inShares P Q v d (cq c) : sProp 𝕄) = bigSep Finset.univ fun i : Fin 16 => inShares P Q v d (tq c i) := by
  unfold inShares
  rw [bigSep_sep', bigSep_sep']
  unfold tq
  rw [← Transfers.pointsTo_deal Finset.univ Finset.univ_nonempty (cq c), ← Transfers.pointsTo_deal Finset.univ Finset.univ_nonempty (cq c),
    ← Transfers.pointsTo_deal Finset.univ Finset.univ_nonempty (cq c)]

theorem inShares_cores (d : Dev nD) :
    (inShares P Q v d fullShare : sProp 𝕄) = bigSep Finset.univ fun c : Fin 2 => inShares P Q v d (cq c) := by
  unfold inShares
  rw [bigSep_sep', bigSep_sep']
  unfold cq
  rw [← Transfers.pointsTo_deal Finset.univ Finset.univ_nonempty fullShare, ← Transfers.pointsTo_deal Finset.univ Finset.univ_nonempty fullShare,
    ← Transfers.pointsTo_deal Finset.univ Finset.univ_nonempty fullShare]

theorem outRows_tiles (d : Dev nD) (c : Fin 2) (f : S32x32.Idx → F .f32) :
    (outRows d (coreRows c.val) f : sProp 𝕄) = bigSep Finset.univ fun i : Fin 16 => outRows d (rowSet (2 * i.val + c.val)) f := by
  unfold outRows
  rw [coreRows_eq c]
  exact pointsTo_biUnion (ℓ := oLoc d) Finset.univ (fun i : Fin 16 => rowSet (2 * i.val + c.val)) (rows_disjoint c)

theorem outRows_cores (d : Dev nD) (f : S32x32.Idx → F .f32) :
    (oLoc d ↦{fullShare} (f : Buf (Elt F) (oLoc d)) : sProp 𝕄) = bigSep Finset.univ fun c : Fin 2 => outRows d (coreRows c.val) f := by
  show (oLoc d ↦[(Finset.univ : Finset S32x32.Idx)]{fullShare} (f : Buf (Elt F) (oLoc d)) : sProp 𝕄) = _
  rw [all_rows]
  exact pointsTo_biUnion (ℓ := oLoc d) Finset.univ (fun c : Fin 2 => coreRows c.val) cores_disjoint

theorem vecSplit : (K (F := F)).VecSplit' (pay P Q v o) 0 := by
  intro d c
  show iprop(inShares P Q v d (cq c) ∗ outRows d (coreRows c.val) (o d)) ⊢ |={Set.univ}=> iprop(
      (bigSep Finset.univ fun i : Fin 16 => iprop(inShares P Q v d (tq c i) ∗ outRows d (rowSet (2 * i.val + c.val)) (o d)))
      ∗ ((bigSep Finset.univ fun i : Fin 16 =>
          iprop(inShares P Q v d (tq c i) ∗ outRows d (rowSet (2 * i.val + c.val)) (parts (P d) (Q d) (v d))))
          -∗ iprop(inShares P Q v d (cq c) ∗ outRows d (coreRows c.val) (parts (P d) (Q d) (v d)))))
  rw [show (bigSep Finset.univ fun i : Fin 16 => iprop(inShares P Q v d (tq c i) ∗ outRows d (rowSet (2 * i.val + c.val)) (o d)) : sProp 𝕄)
      = iprop((bigSep Finset.univ fun i : Fin 16 => inShares P Q v d (tq c i))
        ∗ bigSep Finset.univ fun i : Fin 16 => outRows d (rowSet (2 * i.val + c.val)) (o d)) from bigSep_sep' ..,
    show (bigSep Finset.univ fun i : Fin 16 =>
          iprop(inShares P Q v d (tq c i) ∗ outRows d (rowSet (2 * i.val + c.val)) (parts (P d) (Q d) (v d))) : sProp 𝕄)
      = iprop((bigSep Finset.univ fun i : Fin 16 => inShares P Q v d (tq c i))
        ∗ bigSep Finset.univ fun i : Fin 16 => outRows d (rowSet (2 * i.val + c.val)) (parts (P d) (Q d) (v d))) from bigSep_sep' ..,
    ← inShares_tiles P Q v d c, ← outRows_tiles d c, ← outRows_tiles d c]
  iintro H; imodintro
  isplitl [H]; · iexact H
  iintro H
  iexact H

/-- What the call takes is the inputs and the array of partial results whole, -/
theorem starts_eq (d : Dev nD) :
    (bigSep Finset.univ fun c : Fin ((K (F := F)).nCore 0) => (pay P Q v o).st 0 d c)
      = (iprop(inShares P Q v d fullShare ∗ oLoc d ↦{fullShare} (o d : Buf (Elt F) (oLoc d))) : sProp 𝕄) := by
  rw [inShares_cores, outRows_cores, ← bigSep_sep']; rfl

/-- and what it gives back the inputs and the partial results. -/
theorem dones_eq (d : Dev nD) :
    (bigSep Finset.univ fun c : Fin ((K (F := F)).nCore 0) => (pay P Q v o).dn 0 d c)
      = (iprop(inShares P Q v d fullShare ∗ oLoc d ↦{fullShare} (parts (P d) (Q d) (v d) : Buf (Elt F) (oLoc d))) : sProp 𝕄) := by
  rw [inShares_cores, outRows_cores, ← bigSep_sep']; rfl

end Cert.RunKernelIdeal

end
-- ==== Proof.KernelIdeal.TcBody.lean ====
/-
  The two TensorCore kernels, each run once on the buffers it is called with: what it leaves in its result's buffer is
  a function of what the others hold.
-/
module

public import proofs.«01_k».proof.Proof.KernelIdeal.Setup
public import Idealize.ShloMosaic.Lib.Pipeline.Value

@[expose] public section

noncomputable section

namespace Cert.RunKernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A word of a one-word array, -/
def one : S1.Idx
  | 0 => ⟨0, by decide⟩
  | ⟨_ + 1, h⟩ => absurd h (Nat.not_lt.2 (Nat.le_add_left _ _))

/-- A pair of words laid out as an array of two. -/
def pairVec (a : F .f32 × F .f32) : S2.Idx → F .f32 := fun n => if (n 0).val = 0 then a.1 else a.2

/-- One block of columns added to a running sum and a running count. -/
def tcStep (v : F .f32) (X Y : S200x4096.Idx → F .f32) (a : F .f32 × F .f32) : F .f32 × F .f32 :=
  (k0_pay3 v Y X a.1, k0_pay4 v Y a.2)

/-- The float zero the running pair starts from. -/
abbrev zf : F .f32 := Scalar.ofBits .f32 0x00000000#32

section
variable {c : Dev nD} {M0 : Memref sig .tc .smem S1 .f32} {M1 M2 : Memref sig .tc .vmem S200x4096 .f32} {M3 : Memref sig .tc .smem S2 .f32}

/-- The two words of an array of two, stored one after the other, are the pair. -/
theorem read_pair (f : Buf (Elt F) (M3.view.loc (c : Thread nD τ))) (a b : F .f32) (L : List (View.Piece (Elt F) S2 .f32)) :
    M3.view.read (Elt F) (M3.view.writes (Elt F) f (⟨Rect.unit (s := S2) ![1] S1.size inb_S2_S1_1, fun _ => b⟩
      :: ⟨Rect.unit (s := S2) ![0] S1.size inb_S2_S1_0, fun _ => a⟩ :: L)) = pairVec (a, b) := by
  funext n
  have hn : (n 0).val < 2 := (n 0).isLt
  by_cases h : (n 0).val = 0
  · have e : n = (Rect.unit (s := S2) ![0] S1.size inb_S2_S1_0).emb one := by
      funext x; apply Fin.ext; match x with | 0 => show (n 0).val = 0 + 1 * 0; omega
    have hm : n ∉ (Rect.unit (s := S2) ![1] S1.size inb_S2_S1_1).set := by
      rw [Rect.mem_set_unit]; intro hall; have := (hall 0).1; change 1 ≤ (n 0).val at this; omega
    rw [View.writes_cons, View.read_slice_write_of_not_mem _ _ _ _ (by rwa [Rect.map_emb_univ]), e, View.read_writes_cons_emb, ← e]
    show a = pairVec (a, b) n
    unfold pairVec; rw [if_pos h]
  · have e : n = (Rect.unit (s := S2) ![1] S1.size inb_S2_S1_1).emb one := by
      funext x; apply Fin.ext; match x with | 0 => show (n 0).val = 1 + 1 * 0; omega
    rw [e, View.read_writes_cons_emb, ← e]
    show b = pairVec (a, b) n
    unfold pairVec; rw [if_neg h]

theorem zero2 : (![0, 0] : Fin 2 → ℕ) = fun _ => 0 := by funext a; fin_cases a <;> rfl

/-- A load of a whole block reads it. -/
theorem readAll (M : Memref sig .tc .vmem S200x4096 .f32) (f : Buf (Elt F) (M.view.loc (c : Thread nD τ))) :
    M.view.readAt (Elt F) (Rect.unit (s := S200x4096) ![0, 0] S200x4096.size inb_S200x4096_S200x4096_0_0).toLoadRect f = M.view.read (Elt F) f := by
  rw [View.readAt_eq_ld, View.ld_unit_zero (S := S200x4096) zero2]

/-- A load of the only word of an array of one reads it. -/
theorem readOne (f : Buf (Elt F) (M0.view.loc (c : Thread nD τ))) (x : S1.Idx) :
    M0.view.readAt (Elt F) (Rect.unit (s := S1) ![0] S1.size inb_S1_S1_0).toLoadRect f x = M0.view.read (Elt F) f one := by
  rw [View.readAt_eq_ld]
  show M0.view.read (Elt F) f _ = _
  congr 1
  funext a; apply Fin.ext
  match a with | 0 => have : (x 0).val < 1 := (x 0).isLt; show 0 + 1 * (x 0).val = 0; omega

/-- A load of either word of an array of two that holds a pair reads that half of it. -/
theorem readFst (f : Buf (Elt F) (M3.view.loc (c : Thread nD τ))) (p : F .f32 × F .f32) (h : M3.view.read (Elt F) f = pairVec p) (x : S1.Idx) :
    M3.view.readAt (Elt F) (Rect.unit (s := S2) ![0] S1.size inb_S2_S1_0).toLoadRect f x = p.1 := by
  rw [View.readAt_eq_ld, h]
  have : (x 0).val < 1 := (x 0).isLt
  show pairVec p _ = _
  unfold pairVec; exact if_pos (show 0 + 1 * (x 0).val = 0 by omega)

theorem readSnd (f : Buf (Elt F) (M3.view.loc (c : Thread nD τ))) (p : F .f32 × F .f32) (h : M3.view.read (Elt F) f = pairVec p) (x : S1.Idx) :
    M3.view.readAt (Elt F) (Rect.unit (s := S2) ![1] S1.size inb_S2_S1_1).toLoadRect f x = p.2 := by
  rw [View.readAt_eq_ld, h]
  have : (x 0).val < 1 := (x 0).isLt
  show pairVec p _ = _
  unfold pairVec; exact if_neg (show ¬ 1 + 1 * (x 0).val = 0 by omega)

/-- The first block's kernel starts the pair from zero and adds the block. -/
theorem body0_first (i : grid0.Coords) (hi : (i 0).val = 0) (h0 : M0.IsWhole) (h1 : M1.IsWhole) (h2 : M2.IsWhole) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ))) :
    (iprop((M0.view.loc (c : Thread nD τ) ↦{fullShare} f0) ∗ (M1.view.loc (c : Thread nD τ) ↦{fullShare} f1)
      ∗ (M2.view.loc (c : Thread nD τ) ↦{fullShare} f2) ∗ (M3.view.loc (c : Thread nD τ) ↦{fullShare} f3)) : sProp 𝕄)
      ⊢ wp frame (wpE (defs₀ (F := F)) 𝒱₀ (c : Thread nD τ) none) Set.univ (cc0__tc_partial_body i M0 h0 M1 h1 M2 h2 M3 h3)
        fun _ => iprop((M0.view.loc (c : Thread nD τ) ↦{fullShare} f0) ∗ (M1.view.loc (c : Thread nD τ) ↦{fullShare} f1)
          ∗ (M2.view.loc (c : Thread nD τ) ↦{fullShare} f2)
          ∗ ∃ f3' : Buf (Elt F) (M3.view.loc (c : Thread nD τ)),
            ⌜M3.view.read (Elt F) f3' = pairVec (tcStep (M0.view.read (Elt F) f0 one) (M1.view.read (Elt F) f1) (M2.view.read (Elt F) f2) (zf, zf))⌝
              ∗ (M3.view.loc (c : Thread nD τ) ↦{fullShare} f3')) := by
  have hc : Scalar.cmpi .ne (Scalar.extui (Scalar.cmpi .eq (BitVec.ofNat 32 (i 0).val) 0#32) : BitVec 32) 0#32 = 1#1 := by
    rw [hi]; decide
  iintro ⟨H0, H1, H2, H3⟩
  rw [cc0__tc_partial_body_eq_skeleton]
  sl_unfold [cc0__tc_partial_body_skel]
  sl_exec
  sl_step
  isplitl [H0]; · iexact H0
  isplitl [H1]; · iexact H1
  isplitl [H2]; · iexact H2
  iexists _
  isplitr; swap; (· iexact H3)
  ipureintro
  rw [read_pair, readAll, readAll]
  sl_unfold_words
  unfold tcStep
  rw [readOne]

/-- A later block's kernel adds the block to the pair it finds. -/
theorem body0_next (i : grid0.Coords) (hi : (i 0).val ≠ 0) (h0 : M0.IsWhole) (h1 : M1.IsWhole) (h2 : M2.IsWhole) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (p : F .f32 × F .f32) (hp : M3.view.read (Elt F) f3 = pairVec p) :
    (iprop((M0.view.loc (c : Thread nD τ) ↦{fullShare} f0) ∗ (M1.view.loc (c : Thread nD τ) ↦{fullShare} f1)
      ∗ (M2.view.loc (c : Thread nD τ) ↦{fullShare} f2) ∗ (M3.view.loc (c : Thread nD τ) ↦{fullShare} f3)) : sProp 𝕄)
      ⊢ wp frame (wpE (defs₀ (F := F)) 𝒱₀ (c : Thread nD τ) none) Set.univ (cc0__tc_partial_body i M0 h0 M1 h1 M2 h2 M3 h3)
        fun _ => iprop((M0.view.loc (c : Thread nD τ) ↦{fullShare} f0) ∗ (M1.view.loc (c : Thread nD τ) ↦{fullShare} f1)
          ∗ (M2.view.loc (c : Thread nD τ) ↦{fullShare} f2)
          ∗ ∃ f3' : Buf (Elt F) (M3.view.loc (c : Thread nD τ)),
            ⌜M3.view.read (Elt F) f3' = pairVec (tcStep (M0.view.read (Elt F) f0 one) (M1.view.read (Elt F) f1) (M2.view.read (Elt F) f2) p)⌝
              ∗ (M3.view.loc (c : Thread nD τ) ↦{fullShare} f3')) := by
  have hb : (i 0).val < 3 := (i 0).isLt
  have hc : ¬ Scalar.cmpi .ne (Scalar.extui (Scalar.cmpi .eq (BitVec.ofNat 32 (i 0).val) 0#32) : BitVec 32) 0#32 = 1#1 := by
    have h12 : (i 0).val = 1 ∨ (i 0).val = 2 := by omega
    rcases h12 with h | h <;> rw [h] <;> decide
  iintro ⟨H0, H1, H2, H3⟩
  rw [cc0__tc_partial_body_eq_skeleton]
  sl_unfold [cc0__tc_partial_body_skel]
  sl_exec
  sl_step
  isplitl [H0]; · iexact H0
  isplitl [H1]; · iexact H1
  isplitl [H2]; · iexact H2
  iexists _
  isplitr; swap; (· iexact H3)
  ipureintro
  rw [read_pair, readAll, readAll]
  sl_unfold_words
  unfold tcStep
  rw [readOne, readFst _ p hp, readSnd _ p hp]

end

section
variable {c : Dev nD} {M0 : Memref sig .tc .vmem S32x32 .f32} {M1 : Memref sig .tc .smem S2 .f32} {M2 : Memref sig .tc .smem S1x1 .f32}

/-- The combining kernel divides the total of the sums by the total of the counts. -/
theorem body2 (h0 : M0.IsWhole) (h1 : M1.IsWhole) (h2 : M2.IsWhole)
    (f0 : Buf (Elt F) (M0.view.loc (c : Thread nD τ))) (f1 : Buf (Elt F) (M1.view.loc (c : Thread nD τ)))
    (f2 : Buf (Elt F) (M2.view.loc (c : Thread nD τ))) (p : F .f32 × F .f32) (hp : M1.view.read (Elt F) f1 = pairVec p) :
    (iprop((M0.view.loc (c : Thread nD τ) ↦{fullShare} f0) ∗ (M1.view.loc (c : Thread nD τ) ↦{fullShare} f1)
      ∗ (M2.view.loc (c : Thread nD τ) ↦{fullShare} f2)) : sProp 𝕄)
      ⊢ wp frame (wpE (defs₀ (F := F)) 𝒱₀ (c : Thread nD τ) none) Set.univ (cc2__combine_body M0 h0 M1 h1 M2 h2)
        fun _ => iprop((M0.view.loc (c : Thread nD τ) ↦{fullShare} f0) ∗ (M1.view.loc (c : Thread nD τ) ↦{fullShare} f1)
          ∗ ∃ f2' : Buf (Elt F) (M2.view.loc (c : Thread nD τ)),
            ⌜M2.view.read (Elt F) f2' = fun _ => k2_pay1 (M0.view.read (Elt F) f0) p.1 p.2⌝
              ∗ (M2.view.loc (c : Thread nD τ) ↦{fullShare} f2')) := by
  iintro ⟨H0, H1, H2⟩
  rw [cc2__combine_body_eq_skeleton]
  sl_unfold [cc2__combine_body_skel]
  sl_exec
  sl_step
  isplitl [H0]; · iexact H0
  isplitl [H1]; · iexact H1
  iexists _
  isplitr; swap; (· iexact H2)
  ipureintro
  rw [View.writes_cons, View.writes_nil]
  funext x
  have e : x = (Rect.unit (s := S1x1) ![0, 0] S1x1.size inb_S1x1_S1x1_0_0).emb x := by
    funext a; apply Fin.ext
    match a with
    | 0 => show (x 0).val = 0 + 1 * (x 0).val; omega
    | 1 => show (x 1).val = 0 + 1 * (x 1).val; omega
  conv_lhs => rw [e]
  rw [← View.writes_nil M2.view f2, ← View.writes_cons, View.read_writes_cons_emb, View.readAt_eq_ld,
    View.ld_unit_zero (S := S32x32) zero2]
  sl_unfold_words
  rw [readFst _ p hp, readSnd _ p hp]
end

end Cert.RunKernelIdeal
end
-- ==== Proof.KernelIdeal.Regions.lean ====
/-
  The two TensorCore kernels as pipelines over the program's arrays: what every staging buffer holds before and after
  each point, and that each kernel's body keeps to it.
-/
module

public import proofs.«01_k».proof.Proof.KernelIdeal.TcBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.RegionsLoop
public import Idealize.ShloMosaic.Lib.Pipeline.ValueKit.Geometry

@[expose] public section

noncomputable section

namespace Cert.RunKernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- What the TensorCore's arrays hold. -/
abbrev Arrays (F : FTy → Type) : Type := (c : Dev nD) → (b : Ref sig .tc) → Buf (Elt F) ((c : Thread nD τ).loc b)

/-- The waits of the TensorCore that lie at or below a level. -/
abbrev waited (c : Dev nD) (b : ℕ) : Set (SemLoc sig × HIx 1) := {p | (K (F := F)).lev ((c : Thread nD τ), p.1) p.2 ≤ b}

/-- Owning a whole buffer through a memref is holding it at what the memref reads. -/
theorem owns_eq (c : Thread nD τ) {sp : Space} {sh : Shape} {e : EltTy} (M : Memref sig c.2.kind sp sh e) (h : M.IsWhole)
    (q : PosShare TreeShare) (X : sh.Idx → Elt F e) :
    (owns c M q X : sProp 𝕄) = iprop(∃ f : Buf (Elt F) (M.view.loc c), ⌜M.view.read (Elt F) f = X⌝ ∗ (M.view.loc c ↦{q} f)) := by
  unfold owns; rw [h.set_eq_univ]

/-! ## The first kernel -/

section First
variable (V : Arrays F) (b : ℕ)

/-- The blocks a point is given. -/
abbrev blk0_0 (c : Dev nD) (t : Fin cfg0.N) : S1.Idx → F .f32 := ((cfg0.win 0).blk t).view.read (Elt F) (V c main_v4)
abbrev blk0_1 (c : Dev nD) (t : Fin cfg0.N) : S200x4096.Idx → F .f32 := ((cfg0.win 1).blk t).view.read (Elt F) (V c main_v2)
abbrev blk0_2 (c : Dev nD) (t : Fin cfg0.N) : S200x4096.Idx → F .f32 := ((cfg0.win 2).blk t).view.read (Elt F) (V c main_v3)

/-- The pair after a point, from the pair before it. -/
def pairStep (c : Dev nD) (t : Fin cfg0.N) (a : F .f32 × F .f32) : F .f32 × F .f32 :=
  tcStep (blk0_0 V c t one) (blk0_1 V c t) (blk0_2 V c t) a

/-- The pair after each of the three points, from zero. -/
def pair0 (c : Dev nD) : F .f32 × F .f32 := pairStep V c t0_0 (zf, zf)
def pair1 (c : Dev nD) : F .f32 × F .f32 := pairStep V c t0_1 (pair0 V c)
def pair2 (c : Dev nD) : F .f32 × F .f32 := pairStep V c t0_2 (pair1 V c)

def pairAt (c : Dev nD) (n : ℕ) : F .f32 × F .f32 := if n = 0 then pair0 V c else if n = 1 then pair1 V c else pair2 V c

/-- The first kernel's data: the inputs' buffers as fetched, the result's at the pair so far. -/
def dat0 (c : Dev nD) : Dat τ (Elt F) (HIx 1) ℕ UU ℕ cfg0 c where
  A w := V c (Pipeline.arrRef spec0 w)
  after w t := match w with
    | ⟨0, _⟩ => blk0_0 V c t
    | ⟨1, _⟩ => blk0_1 V c t
    | ⟨2, _⟩ => blk0_2 V c t
    | ⟨3, _⟩ => pairVec (pairAt V c t.val)
  Φ _ := Pipeline.scopedRest (Ix := HIx 1) (Name := ℕ) (U := UU) (Lvl := ℕ) (Val := Elt F) spec0 c
  q _ := fullShare
  owed _ := (K (F := F)).Otc c 0
  recorded _ := waited (F := F) c b

theorem before0_0 (c : Dev nD) (t : Fin cfg0.N) (d) : (dat0 V b c).before 0 t d = blk0_0 V c t :=
  (dat0 V b c).before_in_eq_fetched 0 rfl (fun _ => rfl) (fun _ _ _ => rfl) (fun _ => rfl) t d
theorem before0_1 (c : Dev nD) (t : Fin cfg0.N) (d) : (dat0 V b c).before 1 t d = blk0_1 V c t :=
  (dat0 V b c).before_in_eq_fetched 1 rfl (fun _ => rfl) (fun _ _ _ => rfl) (fun _ => rfl) t d
theorem before0_2 (c : Dev nD) (t : Fin cfg0.N) (d) : (dat0 V b c).before 2 t d = blk0_2 V c t :=
  (dat0 V b c).before_in_eq_fetched 2 rfl (fun _ => rfl) (fun _ _ _ => rfl) (fun _ => rfl) t d
theorem before0_3_0 (c : Dev nD) (d) : (dat0 V b c).before 3 t0_0 d = d :=
  (dat0 V b c).before_out_reset 3 rfl t0_0 (Or.inl rfl) d
theorem before0_3_1 (c : Dev nD) (d) : (dat0 V b c).before 3 t0_1 d = pairVec (pair0 V c) :=
  (dat0 V b c).before_out_kept 3 rfl t0_1 (by decide) (by decide) (fun _ => rfl) (fun _ _ => rfl) d
theorem before0_3_2 (c : Dev nD) (d) : (dat0 V b c).before 3 t0_2 d = pairVec (pair1 V c) :=
  (dat0 V b c).before_out_kept 3 rfl t0_2 (by decide) (by decide) (fun _ => rfl) (fun _ _ => rfl) d

/-- One point of the first kernel, from the buffers as the point finds them. -/
theorem run0 (c : Dev nD) (t : Fin cfg0.N)
    (f0 : Buf (Elt F) ((st0_0 t).view.loc (c : Thread nD τ))) (f1 : Buf (Elt F) ((st0_1 t).view.loc (c : Thread nD τ)))
    (f2 : Buf (Elt F) ((st0_2 t).view.loc (c : Thread nD τ))) (f3 : Buf (Elt F) ((st0_3 t).view.loc (c : Thread nD τ)))
    (d3 : (cfg0.win 3).block.Idx → Elt F (cfg0.win 3).elt)
    (h0 : (st0_0 t).view.read (Elt F) f0 = blk0_0 V c t) (h1 : (st0_1 t).view.read (Elt F) f1 = blk0_1 V c t)
    (h2 : (st0_2 t).view.read (Elt F) f2 = blk0_2 V c t) (h3 : (st0_3 t).view.read (Elt F) f3 = (dat0 V b c).before 3 t d3) :
    (iprop(((st0_0 t).view.loc (c : Thread nD τ) ↦{fullShare} f0) ∗ ((st0_1 t).view.loc (c : Thread nD τ) ↦{fullShare} f1)
      ∗ ((st0_2 t).view.loc (c : Thread nD τ) ↦{fullShare} f2) ∗ ((st0_3 t).view.loc (c : Thread nD τ) ↦{fullShare} f3)) : sProp 𝕄)
      ⊢ wp frame (wpE (defs₀ (F := F)) 𝒱₀ (c : Thread nD τ) none) Set.univ (bodyAt0 t)
        fun _ => iprop(((st0_0 t).view.loc (c : Thread nD τ) ↦{fullShare} f0) ∗ ((st0_1 t).view.loc (c : Thread nD τ) ↦{fullShare} f1)
          ∗ ((st0_2 t).view.loc (c : Thread nD τ) ↦{fullShare} f2)
          ∗ ∃ f3' : Buf (Elt F) ((st0_3 t).view.loc (c : Thread nD τ)),
            ⌜(st0_3 t).view.read (Elt F) f3' = pairVec (pairAt V c t.val)⌝ ∗ ((st0_3 t).view.loc (c : Thread nD τ) ↦{fullShare} f3')) := by
  rcases fin_N0 t with rfl | rfl | rfl
  · have := body0_first (F := F) (c := c) (M0 := st0_0 t0_0) (M1 := st0_1 t0_0) (M2 := st0_2 t0_0) (M3 := st0_3 t0_0)
      (grid0.coords t0_0) (by decide) (hstage0_0 ((cfg0.slots t0_0 0).cast nbuf0_0)) (hstage0_1 ((cfg0.slots t0_0 1).cast nbuf0_1))
      (hstage0_2 ((cfg0.slots t0_0 2).cast nbuf0_2)) (hstage0_3 ((cfg0.slots t0_0 3).cast nbuf0_3)) f0 f1 f2 f3
    rw [h0, h1, h2] at this
    exact this
  · have := body0_next (F := F) (c := c) (M0 := st0_0 t0_1) (M1 := st0_1 t0_1) (M2 := st0_2 t0_1) (M3 := st0_3 t0_1)
      (grid0.coords t0_1) (by decide) (hstage0_0 ((cfg0.slots t0_1 0).cast nbuf0_0)) (hstage0_1 ((cfg0.slots t0_1 1).cast nbuf0_1))
      (hstage0_2 ((cfg0.slots t0_1 2).cast nbuf0_2)) (hstage0_3 ((cfg0.slots t0_1 3).cast nbuf0_3)) f0 f1 f2 f3
      (pair0 V c) (h3.trans (before0_3_1 V b c d3))
    rw [h0, h1, h2] at this
    exact this
  · have := body0_next (F := F) (c := c) (M0 := st0_0 t0_2) (M1 := st0_1 t0_2) (M2 := st0_2 t0_2) (M3 := st0_3 t0_2)
      (grid0.coords t0_2) (by decide) (hstage0_0 ((cfg0.slots t0_2 0).cast nbuf0_0)) (hstage0_1 ((cfg0.slots t0_2 1).cast nbuf0_1))
      (hstage0_2 ((cfg0.slots t0_2 2).cast nbuf0_2)) (hstage0_3 ((cfg0.slots t0_2 3).cast nbuf0_3)) f0 f1 f2 f3
      (pair1 V c) (h3.trans (before0_3_2 V b c d3))
    rw [h0, h1, h2] at this
    exact this

/-- The first kernel's body keeps to its data at every point. -/
theorem body_obligation0 (c : Dev nD) : BodyObligation (dat0 V b c) (defs₀ (F := F)) 𝒱₀ none Set.univ := fun t => by
  rw [bigSep_W0, bigSep_W0]
  rw [show (dat0 V b c).Φ t.succ = (dat0 V b c).Φ t.castSucc from rfl,
    show (dat0 V b c).owesAt none t.succ = (dat0 V b c).owesAt none t.castSucc from rfl]
  have e0 : ∀ X, (owns (c : Thread nD τ) (st0_0 t) fullShare X : sProp 𝕄) = _ :=
    fun X => owns_eq (F := F) (c : Thread nD τ) (st0_0 t) (hstage0_0 ((cfg0.slots t 0).cast nbuf0_0)) fullShare X
  have e1 : ∀ X, (owns (c : Thread nD τ) (st0_1 t) fullShare X : sProp 𝕄) = _ :=
    fun X => owns_eq (F := F) (c : Thread nD τ) (st0_1 t) (hstage0_1 ((cfg0.slots t 1).cast nbuf0_1)) fullShare X
  have e2 : ∀ X, (owns (c : Thread nD τ) (st0_2 t) fullShare X : sProp 𝕄) = _ :=
    fun X => owns_eq (F := F) (c : Thread nD τ) (st0_2 t) (hstage0_2 ((cfg0.slots t 2).cast nbuf0_2)) fullShare X
  have e3 : ∀ X, (owns (c : Thread nD τ) (st0_3 t) fullShare X : sProp 𝕄) = _ :=
    fun X => owns_eq (F := F) (c : Thread nD τ) (st0_3 t) (hstage0_3 ((cfg0.slots t 3).cast nbuf0_3)) fullShare X
  iintro ⟨HΦ, Howes, ⟨%d0, H0⟩, ⟨%d1, H1⟩, ⟨%d2, H2⟩, ⟨%d3, H3⟩⟩
  ihave H0' := (Entails.of_eq (e0 _)) $$ H0
  ihave H1' := (Entails.of_eq (e1 _)) $$ H1
  ihave H2' := (Entails.of_eq (e2 _)) $$ H2
  ihave H3' := (Entails.of_eq (e3 _)) $$ H3
  icases H0' with ⟨%f0, %hf0, H0⟩
  icases H1' with ⟨%f1, %hf1, H1⟩
  icases H2' with ⟨%f2, %hf2, H2⟩
  icases H3' with ⟨%f3, %hf3, H3⟩
  rw [before0_0] at hf0
  rw [before0_1] at hf1
  rw [before0_2] at hf2
  ihave Hw := (run0 V b c t f0 f1 f2 f3 d3 hf0 hf1 hf2 hf3) $$ [H0 H1 H2 H3]
  · isplitl [H0]; · iexact H0
    isplitl [H1]; · iexact H1
    isplitl [H2]; · iexact H2
    iexact H3
  iapply (wp_wand frame (wpE (defs₀ (F := F)) 𝒱₀ (c : Thread nD τ) none) Set.univ) $$ Hw
  iintro %_ ⟨H0, H1, H2, H3⟩
  isplitl [HΦ]; · iexact HΦ
  isplitl [Howes]; · iexact Howes
  isplitl [H0]; · iapply (Entails.of_eq (e0 _).symm); iexists f0; isplitr; swap; (· iexact H0); ipureintro; exact hf0
  isplitl [H1]; · iapply (Entails.of_eq (e1 _).symm); iexists f1; isplitr; swap; (· iexact H1); ipureintro; exact hf1
  isplitl [H2]; · iapply (Entails.of_eq (e2 _).symm); iexists f2; isplitr; swap; (· iexact H2); ipureintro; exact hf2
  iapply (Entails.of_eq (e3 _).symm); iexact H3

/-- So the first kernel leaves the pair over all three blocks in its result. -/
theorem final0 (c : Dev nD) : (dat0 V b c).arrAt 3 cfg0.N = pairVec (pair2 V c) := by
  refine (dat0 V b c).arrAt_eq_of_covers 3 _ (by decide +kernel) fun t hf y => ?_
  have h2 : t.val = 2 := by have h := (flush0_3 t).mp hf; have hl : t.val < 3 := N_0 ▸ t.isLt; omega
  obtain rfl : t = t0_2 := Fin.ext h2
  refine (cast_eq _ _).trans ?_
  show pairVec (pair2 V c) _ = pairVec (pair2 V c) _
  congr 1
  funext a; apply Fin.ext
  match a with
  | ⟨0, _⟩ => show (y 0).val = win0_3.index t0_2 0 * 2 + 1 * (y 0).val
              rw [show win0_3.index t0_2 0 = 0 from by decide +kernel]; omega

end First

/-! ## The second kernel -/

section Second
variable (V : Arrays F) (b : ℕ)

/-- The two words of an array of two. -/
def pairOf (v : S2.Idx → F .f32) : F .f32 × F .f32 :=
  (v fun | 0 => ⟨0, by decide⟩ | ⟨_ + 1, h⟩ => absurd h (Nat.not_lt.2 (Nat.le_add_left _ _)),
   v fun | 0 => ⟨1, by decide⟩ | ⟨_ + 1, h⟩ => absurd h (Nat.not_lt.2 (Nat.le_add_left _ _)))

theorem pairVec_pairOf (v : S2.Idx → F .f32) : pairVec (pairOf v) = v := by
  funext n
  have hn : (n 0).val < 2 := (n 0).isLt
  unfold pairVec pairOf
  by_cases h : (n 0).val = 0
  · rw [if_pos h]; refine congrArg v ?_; funext a; match a with | 0 => exact Fin.ext h.symm
  · rw [if_neg h]; refine congrArg v ?_; funext a; match a with | 0 => exact Fin.ext (by show 1 = (n 0).val; omega)

theorem pairOf_pairVec (p : F .f32 × F .f32) : pairOf (pairVec p) = p := rfl

/-- What the second kernel is given. -/
abbrev blk2_0 (c : Dev nD) (t : Fin cfg2.N) : S32x32.Idx → F .f32 := ((cfg2.win 0).blk t).view.read (Elt F) (V c main_v6)
abbrev blk2_1 (c : Dev nD) (t : Fin cfg2.N) : S2.Idx → F .f32 := ((cfg2.win 1).blk t).view.read (Elt F) (V c main_v5)

/-- The quotient it computes. -/
def quot (c : Dev nD) (t : Fin cfg2.N) : F .f32 := k2_pay1 (blk2_0 V c t) (pairOf (blk2_1 V c t)).1 (pairOf (blk2_1 V c t)).2

/-- The second kernel's data: the inputs' buffers as fetched, the result's at the quotient. -/
def dat1 (c : Dev nD) : Dat τ (Elt F) (HIx 1) ℕ UU ℕ cfg2 c where
  A w := V c (Pipeline.arrRef spec2 w)
  after w t := match w with
    | ⟨0, _⟩ => blk2_0 V c t
    | ⟨1, _⟩ => blk2_1 V c t
    | ⟨2, _⟩ => fun _ => quot V c t
  Φ _ := Pipeline.scopedRest (Ix := HIx 1) (Name := ℕ) (U := UU) (Lvl := ℕ) (Val := Elt F) spec2 c
  q _ := fullShare
  owed _ := (K (F := F)).Otc c 1
  recorded _ := waited (F := F) c b

theorem before2_0 (c : Dev nD) (t : Fin cfg2.N) (d) : (dat1 V b c).before 0 t d = blk2_0 V c t :=
  (dat1 V b c).before_in_eq_fetched 0 rfl (fun _ => rfl) (fun _ _ _ => rfl) (fun _ => rfl) t d
theorem before2_1 (c : Dev nD) (t : Fin cfg2.N) (d) : (dat1 V b c).before 1 t d = blk2_1 V c t :=
  (dat1 V b c).before_in_eq_fetched 1 rfl (fun _ => rfl) (fun _ _ _ => rfl) (fun _ => rfl) t d

/-- The second kernel's body keeps to its data. -/
theorem body_obligation1 (c : Dev nD) : BodyObligation (dat1 V b c) (defs₀ (F := F)) 𝒱₀ none Set.univ := fun t => by
  obtain rfl := fin_N2 t
  rw [bigSep_W2, bigSep_W2]
  simp only [owns_whole_eq]
  rw [show (dat1 V b c).Φ t2_0.succ = (dat1 V b c).Φ t2_0.castSucc from rfl,
    show (dat1 V b c).owesAt none t2_0.succ = (dat1 V b c).owesAt none t2_0.castSucc from rfl]
  iintro ⟨HΦ, Howes, ⟨%d0, %f0, %hf0, H0⟩, ⟨%d1, %f1, %hf1, H1⟩, ⟨%d2, %f2, %hf2, H2⟩⟩
  rw [before2_0] at hf0
  rw [before2_1] at hf1
  subst hf0 hf1
  ihave Hw := (body2 (F := F) (c := c) (M0 := st2_0 t2_0) (M1 := st2_1 t2_0) (M2 := st2_2 t2_0) (hstage2_0 0) (hstage2_1 0) (hstage2_2 0)
    (blk2_0 V c t2_0) (blk2_1 V c t2_0) f2 (pairOf (blk2_1 V c t2_0)) (pairVec_pairOf _).symm) $$ [H0 H1 H2]
  · isplitl [H0]; · iexact H0
    isplitl [H1]; · iexact H1
    iexact H2
  iapply (wp_wand frame (wpE (defs₀ (F := F)) 𝒱₀ (c : Thread nD τ) none) Set.univ) $$ Hw
  iintro %_ ⟨H0, H1, %f2', %hf2', H2⟩
  isplitl [HΦ]; · iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  iexists _; isplitr; swap; (· iexact H2); ipureintro; exact hf2'

/-- So the second kernel leaves the quotient in its result. -/
theorem final1 (c : Dev nD) : (dat1 V b c).arrAt 2 cfg2.N = fun _ => quot V c t2_0 := by
  refine (dat1 V b c).arrAt_eq_of_covers 2 _ (by decide +kernel) fun t hf y => ?_
  obtain rfl := fin_N2 t
  exact cast_eq _ _

end Second

end Cert.RunKernelIdeal
end
-- ==== Proof.KernelIdeal.Segs.lean ====
/-
  The two TensorCore kernels as segments of the program: each is entered from the program's arrays and leaves them with
  its result's array at what it computed, all others as they were.
-/
module

public import proofs.«01_k».proof.Proof.KernelIdeal.Regions

@[expose] public section

noncomputable section

namespace Cert.RunKernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (V V' : Arrays F) (b b' : ℕ) (adm : (p : Fin 2) → (pcfgs (F := F) p).Adm)

/-- Both kernels' data: the first entered at arrays `V`, the second at `V'`. -/
def pdats : (p : Fin 2) → (c : Dev nD) → Dat τ (Elt F) (HIx 1) ℕ UU ℕ (Pipeline.pin (pcfgs (F := F)) adm p) c
  | ⟨0, _⟩ => fun c => dat0 V b c
  | ⟨1, _⟩ => fun c => dat1 V' b' c

/-- What the TensorCore owes around SparseCore call `n`, its waits at or below a level. -/
def owing (n : ℕ) (b : ℕ) (c : Dev nD) : sProp 𝕄 :=
  iprop(∃ W, ⌜∀ p ∈ W, p ∈ waited (F := F) c b⌝ ∗ owes (c : Thread nD τ) ((K (F := F)).Otc c n) W)

/-- A kernel's own waits lie below whatever the TensorCore owes the SparseCores. -/
theorem waits (p : Fin 2) (n : ℕ) (h : ∀ c t, (pdats V V' b b' adm p c).owed t = (K (F := F)).Otc c n) (c : Dev nD) :
    (levAts (K (F := F)).L (K (F := F)).lev : sProp 𝕄) ⊢ Pipeline.cellsWaits (Pipeline.pin (pcfgs (F := F)) adm) (pdats V V' b b' adm) none p c :=
  Pipeline.cellsWaits_intro (Pipeline.pin (pcfgs (F := F)) adm) (pdats V V' b b' adm) none p c fun w s t => by
    rw [h c t]
    exact (K (F := F)).mayWait_none _ fun g => by
      by_contra hne
      have hpos := Nat.pos_of_ne_zero hne
      have := (K (F := F)).lev_of_Otc_pos hpos
      exact absurd this (by show ¬ _ ≤ 0; omega)

/-- The first kernel's result. -/
def partialPair (c : Dev nD) : Buf (Elt F) ((c : Thread nD τ).loc main_v5) := pairVec (pair2 V c)
/-- The second kernel's result. -/
def quotient (c : Dev nD) : Buf (Elt F) ((c : Thread nD τ).loc main_v7) := fun _ => quot V c t2_0

variable (Vp : Arrays F)

set_option backward.isDefEq.respectTransparency.types false in
/-- The first kernel as a segment: the arrays `V` before it, `Vp` after it. -/
def seg0 (hout : ∀ c, Vp c main_v5 = partialPair V c) (hne : ∀ c (r : Ref sig .tc), r ≠ main_v5 → Vp c r = V c r) :
    Pipeline.RegionSeg (pcfgs (F := F)) adm (pdats V V' b b' adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 V b c).loose
  hwaits := waits V V' b b' adm 0 0 fun _ _ => rfl
  pre c := iprop(unscopedBufs c (V c) ∗ owing 0 b c)
  post c := iprop(unscopedBufs c (Vp c) ∗ owing 0 b c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V V' b b' adm) launch0.win launch0.arr_whole c
      ((pdats V V' b b' adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V V' b b' adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V V' b b' adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V V' b b' adm) ((pdats V V' b b' adm 0 c).share_full fun _ => rfl) (V c) (Vp c) ((pdats V V' b b' adm 0 c).arrAt · cfg0.N)
      (fun w => by
        fin_cases w
        · exact ((pdats V V' b b' adm 0 c).arrAt_in 0 rfl _).trans (hne c main_v4 (by decide)).symm
        · exact ((pdats V V' b b' adm 0 c).arrAt_in 1 rfl _).trans (hne c main_v2 (by decide)).symm
        · exact ((pdats V V' b b' adm 0 c).arrAt_in 2 rfl _).trans (hne c main_v3 (by decide)).symm
        · exact (final0 V b c).trans (hout c).symm)
      (fun r hr => hne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold owing Pipeline.Dat.owesAt Pipeline.owesWithin
    icases HO with ⟨%W, %hW, HO⟩; iexists W; isplitr; swap; (· iexact HO)
    ipureintro; intro p hp
    rcases hW hp with h | ⟨w, s, rfl⟩
    · exact h
    · exact Nat.zero_le _

set_option backward.isDefEq.respectTransparency.types false in
/-- The second kernel as a segment: the arrays `V'` before it, `Vp` after it. -/
def seg1 (hout : ∀ c, Vp c main_v7 = quotient V' c) (hne : ∀ c (r : Ref sig .tc), r ≠ main_v7 → Vp c r = V' c r) :
    Pipeline.RegionSeg (pcfgs (F := F)) adm (pdats V V' b b' adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 V' b' c).loose
  hwaits := waits V V' b b' adm 1 1 fun _ _ => rfl
  pre c := iprop(unscopedBufs c (V' c) ∗ owing 1 b' c)
  post c := iprop(unscopedBufs c (Vp c) ∗ owing 1 b' c)
  X _ := BI.emp
  Y _ := BI.emp
  Z c := Pipeline.unscopedRest (Ix := HIx 1) (Name := ℕ) (U := UU) (Lvl := ℕ) spec2 c (V' c)
  hentry c := by
    rw [Pipeline.ownSems0_none]
    have hsplit := Pipeline.arrays_of_unscopedBufs (p := 1) (pcfgs (F := F)) adm (pdats V V' b b' adm) launch2.win launch2.arr_whole c
      ((pdats V V' b b' adm 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owing Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V V' b b' adm 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V V' b b' adm 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V V' b b' adm) ((pdats V V' b b' adm 1 c).share_full fun _ => rfl) (V' c) (Vp c) ((pdats V V' b b' adm 1 c).arrAt · cfg2.N)
      (fun w => by
        fin_cases w
        · exact ((pdats V V' b b' adm 1 c).arrAt_in 0 rfl _).trans (hne c main_v6 (by decide)).symm
        · exact ((pdats V V' b b' adm 1 c).arrAt_in 1 rfl _).trans (hne c main_v5 (by decide)).symm
        · exact (final1 V' b' c).trans (hout c).symm)
      (fun r hr => hne c r fun h => hr (h ▸ Finset.mem_image.mpr ⟨2, Finset.mem_univ _, rfl⟩))
    iintro ⟨Ha, HO, -, Hrest⟩
    imodintro
    isplitl [Ha Hrest]
    · iapply hjoin; isplitl [Ha] <;> iassumption
    unfold owing Pipeline.Dat.owesAt Pipeline.owesWithin
    icases HO with ⟨%W, %hW, HO⟩; iexists W; isplitr; swap; (· iexact HO)
    ipureintro; intro p hp
    rcases hW hp with h | ⟨w, s, rfl⟩
    · exact h
    · exact Nat.zero_le _

end Cert.RunKernelIdeal
end
-- ==== Proof.KernelIdeal.Main.lean ====
/-
  The program's run: `@main` on the TensorCore — the operations before the kernels, the first TensorCore kernel, the
  SparseCore call, the second TensorCore kernel and the last reshape — followed by what every array holds at each point.
-/
module

public import proofs.«01_k».proof.Proof.KernelIdeal.Deal
public import proofs.«01_k».proof.Proof.KernelIdeal.Segs

@[expose] public section

noncomputable section

namespace Cert.RunKernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the arrays hold -/

/-- The five operations before the kernels. -/
abbrev op0 : HloOp τ sig (Elt F) := StableHlo.unary main_arg2 main_v0 (sitofp .f32 : (⟨S_, .i32⟩ : BufTy).Contents (Elt F) → (⟨S_, .f32⟩ : BufTy).Contents (Elt F))
abbrev op1 : HloOp τ sig (Elt F) := StableHlo.unary main_v0 main_v1 (broadcastInDim S16 ![] bcast_S_S16 : (⟨S_, .f32⟩ : BufTy).Contents (Elt F) → (⟨S16, .f32⟩ : BufTy).Contents (Elt F))
abbrev op2 : HloOp τ sig (Elt F) := StableHlo.unary main_arg0 main_v2 ((transpose S200x16384 [1, 0] · transposes_S16384x200_S200x16384_1_0) : (⟨S16384x200, .f32⟩ : BufTy).Contents (Elt F) → (⟨S200x16384, .f32⟩ : BufTy).Contents (Elt F))
abbrev op3 : HloOp τ sig (Elt F) := StableHlo.unary main_arg1 main_v3 ((transpose S200x16384 [1, 0] · transposes_S16384x200_S200x16384_1_0) : (⟨S16384x200, .f32⟩ : BufTy).Contents (Elt F) → (⟨S200x16384, .f32⟩ : BufTy).Contents (Elt F))
abbrev op4 : HloOp τ sig (Elt F) := StableHlo.reshape main_v0 main_v4 (rfl : (.f32 : EltTy) = .f32) shapeCasts_S_S1
/-- The one after them. -/
abbrev op5 : HloOp τ sig (Elt F) := StableHlo.reshape main_v7 main_v8 (rfl : (.f32 : EltTy) = .f32) shapeCasts_S1x1_S_

variable (m : (ℓ : Loc nD τ sig) → Buf (Elt F) ℓ) (ρ : Dev nD → PrngReg)

/-- What device `d`'s buffers hold at the launch, -/
abbrev W0 (d : Dev nD) : Valuation τ sig (Elt F) := fun b => m (d, b)
/-- after the first five operations, -/
def W1 (d : Dev nD) : Valuation τ sig (Elt F) := op4.result (op3.result (op2.result (op1.result (op0.result (W0 m d)))))
/-- (as the TensorCore's arrays) -/
abbrev A1 : Arrays F := fun d b => W1 m d b
/-- after the first TensorCore kernel, -/
def W2 (d : Dev nD) : Valuation τ sig (Elt F) := Function.update (W1 m d) (Proc.devRef .tc main_v5) (partialPair (A1 m) d)
abbrev A2 : Arrays F := fun d b => W2 m d b
/-- The tiles' partial sums, of every device. -/
def tiles (d : Dev nD) : S32x32.Idx → F .f32 := parts (A2 m d main_v2) (A2 m d main_v3) (A2 m d main_v1)
/-- after the SparseCore call, -/
def W3 (d : Dev nD) : Valuation τ sig (Elt F) := Function.update (W2 m d) (Proc.devRef .tc main_v6) (tiles m d)
abbrev A3 : Arrays F := fun d b => W3 m d b
/-- after the second TensorCore kernel, -/
def W4 (d : Dev nD) : Valuation τ sig (Elt F) := Function.update (W3 m d) (Proc.devRef .tc main_v7) (quotient (A3 m) d)
abbrev A4 : Arrays F := fun d b => W4 m d b
/-- and at the end. -/
def W5 (d : Dev nD) : Valuation τ sig (Elt F) := op5.result (W4 m d)
abbrev A5 : Arrays F := fun d b => W5 m d b

/-- One reference's array changes; another's does not. -/
theorem update_ne {W : Valuation τ sig (Elt F)} {r r' : Ref sig .tc} (h : r' ≠ r) (x) :
    Function.update W (Proc.devRef .tc r) x (Proc.devRef .tc r') = W (Proc.devRef .tc r') :=
  Function.update_of_ne (fun e => h (Proc.devRef_injective _ e)) _ _

/-! ## The pieces of the launch -/

/-- The tables the pipelines are entered at. -/
abbrev adm : (p : Fin 2) → (pcfgs (F := F) p).Adm := fun p => (cfgs p).toPCfg_adm

/-- What the SparseCore call's tiles are given and give back. -/
abbrev PP : (K (F := F)).Pay (nD := nD) (Val := Elt F) (Name := ℕ) (U := UU) :=
  pay (fun d => A2 m d main_v2) (fun d => A2 m d main_v3) (fun d => A2 m d main_v1) (fun d => A2 m d main_v6)

/-- The ghost state the launch begins with. -/
def u₀ : UU :=
  ((initOf (K (F := F)).hsCells (K (F := F)).hsToks,
    initOf (Pipeline.cells (Pipeline.pin (pcfgs (F := F)) adm) (nD := nD) (τ := τ) cellOf_inj) (Pipeline.launchToks (Pipeline.pin (pcfgs (F := F)) adm) (nD := nD) (τ := τ) cellOf_inj)), 1)

/-- What device `d`'s TensorCore gets of it: the staging cells of the two pipelines. -/
def G (d : Dev nD) : sProp 𝕄 :=
  iprop((bigSep Finset.univ fun p : Fin 2 => Pipeline.cellsGhost (Pipeline.pin (pcfgs (F := F)) adm) (EP (F := F)) p d)
    ∗ bigSep Finset.univ fun p : Fin 2 => Pipeline.toksInit (Pipeline.pin (pcfgs (F := F)) adm) (EP (F := F)) p d)

/-- A pair of the launch's two kinds of rounds, each in its place. -/
theorem own_rounds (a : UH) (b : UP) : (BI.own ((embL : Emb (UH × UP) (MT nD τ sig (HIx 1) (Elt F) ℕ UU ℕ)) (a, b)) : sProp 𝕄)
    ⊢ iprop(BI.own (EH (F := F) a) ∗ BI.own (EP (F := F) b)) := own_pair_emb (EL (F := F)) a b

theorem emp_all {I : Type} (s : Finset I) : (bigSep s fun _ => iprop(emp)) = (iprop(emp) : sProp 𝕄) := bigSep_emp_const s

/-- The launch's ghost state deals the handshakes to the library and the staging cells to the TensorCores. -/
theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (PP m).x q thr) := by
  unfold u₀
  iintro Hu
  ihave H := (ownU_pair (_ : UH × UP) (1 : Counters)) $$ Hu
  icases H with ⟨H, -⟩
  ihave H := (own_rounds (F := F) _ _) $$ H
  icases H with ⟨HH, HP⟩
  imod (Pipeline.fund_ghost (Pipeline.pin (pcfgs (F := F)) adm) (EP (F := F)) cellOf_inj) $$ HP with ⟨Hc, Ht⟩
  imodintro
  isplitl [HH]; · iexact HH
  isplitl [Hc Ht]
  · unfold G; rw [bigSep_sep']
    isplitl [Hc]; · iexact Hc
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), emp_all]
  iempintro

/-- The references of the arrays the SparseCore call names, and the others. -/
abbrev others : Finset (Ref sig .tc) := {main_arg0, main_arg1, main_arg2, main_v0, main_v4, main_v5, main_v7, main_v8}

/-- The TensorCore's arrays, the ones the SparseCore call names first. -/
theorem bufs_call (d : Dev nD) (W : Valuation τ sig (Elt F)) :
    (unscopedBufs d (fun b => W b) : sProp 𝕄) = iprop((pLoc d ↦{fullShare} W main_v2) ∗ (tLoc d ↦{fullShare} W main_v3) ∗ (vLoc d ↦{fullShare} W main_v1)
      ∗ (oLoc d ↦{fullShare} W main_v6) ∗ bigSep others fun b => ((d : Thread nD τ).loc b) ↦{fullShare} W b) := by
  unfold unscopedBufs
  rw [show (Finset.univ.filter fun b : Ref sig .tc => ¬ b.isScoped) = insert main_v2 (insert main_v3 (insert main_v1 (insert main_v6 others))) by decide,
    SparseCore.bigSep_insert' (by decide), SparseCore.bigSep_insert' (by decide), SparseCore.bigSep_insert' (by decide), SparseCore.bigSep_insert' (by decide)]

/-- The TensorCore's arrays, the arguments and the result first. -/
theorem bufs_end (d : Dev nD) (W : Valuation τ sig (Elt F)) :
    (unscopedBufs d (fun b => W b) : sProp 𝕄) = iprop((((d : Thread nD τ).loc main_arg0) ↦{fullShare} W main_arg0) ∗ (((d : Thread nD τ).loc main_arg1) ↦{fullShare} W main_arg1)
      ∗ (((d : Thread nD τ).loc main_arg2) ↦{fullShare} W main_arg2) ∗ (((d : Thread nD τ).loc main_v8) ↦{fullShare} W main_v8)
      ∗ bigSep ({main_v0, main_v1, main_v2, main_v3, main_v4, main_v5, main_v6, main_v7} : Finset (Ref sig .tc)) fun b => ((d : Thread nD τ).loc b) ↦{fullShare} W b) := by
  unfold unscopedBufs
  rw [show (Finset.univ.filter fun b : Ref sig .tc => ¬ b.isScoped)
      = insert main_arg0 (insert main_arg1 (insert main_arg2 (insert main_v8 ({main_v0, main_v1, main_v2, main_v3, main_v4, main_v5, main_v6, main_v7} : Finset (Ref sig .tc))))) by decide,
    SparseCore.bigSep_insert' (by decide), SparseCore.bigSep_insert' (by decide), SparseCore.bigSep_insert' (by decide), SparseCore.bigSep_insert' (by decide)]

/-- The SparseCore call replaces the tiles' array and leaves the others. -/
theorem bufs_called (d : Dev nD) :
    (unscopedBufs d (A3 m d) : sProp 𝕄) = iprop((pLoc d ↦{fullShare} A2 m d main_v2) ∗ (tLoc d ↦{fullShare} A2 m d main_v3) ∗ (vLoc d ↦{fullShare} A2 m d main_v1)
      ∗ (oLoc d ↦{fullShare} tiles m d) ∗ bigSep others fun b => ((d : Thread nD τ).loc b) ↦{fullShare} A2 m d b) := by
  rw [bufs_call, show (bigSep others fun b => ((d : Thread nD τ).loc b) ↦{fullShare} W3 m d b : sProp 𝕄) = bigSep others fun b => ((d : Thread nD τ).loc b) ↦{fullShare} A2 m d b from
    bigSep_congr fun b hb => by
      rw [show W3 m d b = A2 m d b from update_ne (by rintro rfl; revert hb; decide) _]]
  rw [show W3 m d main_v2 = A2 m d main_v2 from update_ne (by decide) _, show W3 m d main_v3 = A2 m d main_v3 from update_ne (by decide) _,
    show W3 m d main_v1 = A2 m d main_v1 from update_ne (by decide) _, show W3 m d main_v6 = tiles m d from Function.update_self _ _ _]

/-! ## The calls of the TensorCore kernels -/

/-- A TensorCore kernel's call in `@main`: its segment's rule, beneath the SparseCore calls. -/
theorem call_region [∀ e, Nonempty (Elt F e)] {V V' : Arrays F} {b b' : ℕ} {p : Fin 2}
    (R : Pipeline.RegionSeg (pcfgs (F := F)) adm (pdats V V' b b' adm) none defs₀ 𝒱₀ (K (F := F)).L (K (F := F)).lev p) (d : Dev nD) (Φ : PUnit → sProp 𝕄) :
    iprop((iprop(boundary (d.tc : Thread nD τ) ∗ R.post d) -∗ Φ ⟨⟩)
        ∗ boundary (d.tc : Thread nD τ) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ())) Φ := by
  refine BIBase.Entails.trans ?_ ((K (F := F)).wp_liftProg (D (F := F)) 𝒱 (SparseCore.T d) Set.univ none (.op (.customCall (Pipeline.entry p) ()) .ret) Φ)
  refine BIBase.Entails.trans ?_ (Pipeline.RegionSeg.wp (pcfgs (F := F)) adm (pdats V V' b b' adm) none cellOf_inj (EP (F := F)) defs₀ 𝒱₀ (K (F := F)).L (K (F := F)).lev R d none
    (fun u hu => nomatch hu) .ret Φ)
  iintro ⟨Hk, H⟩
  isplitl [Hk]
  · iintro H
    rw [wp_ret]; imodintro
    iapply Hk; iexact H
  iexact H

/-! ## `@main` -/

/-- What the TensorCore holds between SparseCore calls: what it owes, and the rest. -/
theorem tcSt_split (d : Dev nD) (n : ℕ) : ∃ R : sProp 𝕄, (K (F := F)).tcSt (EH (F := F)) d n = iprop(owing n (8 * n) d ∗ R) := ⟨_, rfl⟩

/-- What `@main` leaves: the arguments and the result. -/
def FIN (d : Dev nD) : sProp 𝕄 :=
  iprop((((d : Thread nD τ).loc main_arg0) ↦{fullShare} A5 m d main_arg0) ∗ (((d : Thread nD τ).loc main_arg1) ↦{fullShare} A5 m d main_arg1)
      ∗ (((d : Thread nD τ).loc main_arg2) ↦{fullShare} A5 m d main_arg2) ∗ ((d : Thread nD τ).loc main_v8) ↦{fullShare} A5 m d main_v8)

/-- The first TensorCore kernel's segment, between `W1` and `W2`. -/
abbrev R0 (b b' : ℕ) := seg0 (A1 m) (A3 m) b b' adm (A2 m) (fun _ => Function.update_self _ _ _) (fun _ _ h => update_ne h _)
/-- The second's, between `W3` and `W4`. -/
abbrev R1 (b b' : ℕ) := seg1 (A1 m) (A3 m) b b' adm (A4 m) (fun _ => Function.update_self _ _ _) (fun _ _ h => update_ne h _)

/-- Segment 0's call, its two sides spelled out. -/
theorem call0 [∀ e, Nonempty (Elt F e)] (d : Dev nD) (Φ : PUnit → sProp 𝕄) :
    iprop((iprop(boundary (d.tc : Thread nD τ) ∗ unscopedBufs d (A2 m d) ∗ owing 0 (8 * 0) d) -∗ Φ ⟨⟩)
        ∗ boundary (d.tc : Thread nD τ) ∗ (unscopedBufs d (A1 m d) ∗ owing 0 (8 * 0) d) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ())) Φ := call_region (R0 m (8 * 0) (8 * 1)) d Φ

/-- Segment 1's call, its two sides spelled out. -/
theorem call1 [∀ e, Nonempty (Elt F e)] (d : Dev nD) (Φ : PUnit → sProp 𝕄) :
    iprop((iprop(boundary (d.tc : Thread nD τ) ∗ unscopedBufs d (A4 m d) ∗ owing 1 (8 * 1) d) -∗ Φ ⟨⟩)
        ∗ boundary (d.tc : Thread nD τ) ∗ (unscopedBufs d (A3 m d) ∗ owing 1 (8 * 1) d) ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ())) Φ := call_region (R1 m (8 * 0) (8 * 1)) d Φ

/-- The two pipelines' staging cells, each pipeline's together. -/
theorem G_split (d : Dev nD) : (G d : sProp 𝕄) ⊢
    iprop((Pipeline.cellsGhost (Pipeline.pin (pcfgs (F := F)) adm) (EP (F := F)) 0 d ∗ Pipeline.toksInit (Pipeline.pin (pcfgs (F := F)) adm) (EP (F := F)) 0 d)
      ∗ Pipeline.cellsGhost (Pipeline.pin (pcfgs (F := F)) adm) (EP (F := F)) 1 d ∗ Pipeline.toksInit (Pipeline.pin (pcfgs (F := F)) adm) (EP (F := F)) 1 d) := by
  unfold G
  rw [show (Finset.univ : Finset (Fin 2)) = {0, 1} from rfl, SparseCore.bigSep_insert' (by decide), SparseCore.bigSep_insert' (by decide), bigSep_singleton, bigSep_singleton]
  iintro ⟨⟨Hc0, Hc1⟩, Ht0, Ht1⟩
  isplitl [Hc0 Ht0]
  · isplitl [Hc0] <;> iassumption
  isplitl [Hc1] <;> iassumption

/-- The arrays after the operations before the kernels, -/
theorem held_before (d : Dev nD) :
    (StableHlo.held (SparseCore.T d) (Pipeline.ucRefs τ sig) (op4.result (op3.result (op2.result (op1.result (op0.result (W0 m d)))))) : sProp 𝕄)
      = unscopedBufs d (A1 m d) := (Pipeline.unscopedBufs_held d (W1 m d)).symm
/-- before the last reshape, -/
theorem held_last (d : Dev nD) :
    (unscopedBufs d (A4 m d) : sProp 𝕄) = StableHlo.held (SparseCore.T d) (Pipeline.ucRefs τ sig) (W4 m d) := Pipeline.unscopedBufs_held d (W4 m d)
/-- and after it. -/
theorem held_after (d : Dev nD) :
    (StableHlo.held (SparseCore.T d) (Pipeline.ucRefs τ sig) (op5.result (W4 m d)) : sProp 𝕄) = unscopedBufs d (A5 m d) :=
  (Pipeline.unscopedBufs_held d (W5 m d)).symm

/-- `@main` on device `d`'s TensorCore: every array at the values above, the arguments and the result kept. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨S0, h0⟩ := tcSt_split (F := F) d 0
  obtain ⟨S1, h1⟩ := tcSt_split (F := F) d 1
  have h1' : (K (F := F)).tcSt (EH (F := F)) d ((0 : Fin 1).val + 1) = iprop(owing 1 (8 * 1) d ∗ S1) := h1
  unfold SparseCore.Cfg.tcRes SparseCore.Cfg.tcEnd
  rw [show (unscopedBufs d fun b => m ((SparseCore.T d).loc b) : sProp 𝕄) = StableHlo.held (d.tc : Thread nD τ) (Pipeline.ucRefs τ sig) (W0 m d) from
    Pipeline.unscopedBufs_held d (W0 m d)]
  simp only [main, wp_bind, wp_pure]
  iintro ⟨#Hctx, Hst, ⟨Hb, Hub, Hts, -⟩, HG⟩
  ihave HG' := G_split d $$ HG
  icases HG' with ⟨HG0, HG1⟩
  -- the operations before the kernels
  iapply (StableHlo.wp_hlo_within 𝒱 (SparseCore.T d) none Set.univ (op := op0) (S := Pipeline.ucRefs τ sig) (Pipeline.sub_ucRefs _ (StableHlo.unary_bufs_sub ..)) (V := W0 m d)) $$ [Hb Hub]
  · isplitl [Hb] <;> iassumption
  iintro ⟨Hb, Hub⟩
  rw [wp_ret]; imodintro
  iapply (StableHlo.wp_hlo_within 𝒱 (SparseCore.T d) none Set.univ (op := op1) (S := Pipeline.ucRefs τ sig) (Pipeline.sub_ucRefs _ (StableHlo.unary_bufs_sub ..))) $$ [Hb Hub]
  · isplitl [Hb] <;> iassumption
  iintro ⟨Hb, Hub⟩
  rw [wp_ret]; imodintro
  iapply (StableHlo.wp_hlo_within 𝒱 (SparseCore.T d) none Set.univ (op := op2) (S := Pipeline.ucRefs τ sig) (Pipeline.sub_ucRefs _ (StableHlo.unary_bufs_sub ..))) $$ [Hb Hub]
  · isplitl [Hb] <;> iassumption
  iintro ⟨Hb, Hub⟩
  rw [wp_ret]; imodintro
  iapply (StableHlo.wp_hlo_within 𝒱 (SparseCore.T d) none Set.univ (op := op3) (S := Pipeline.ucRefs τ sig) (Pipeline.sub_ucRefs _ (StableHlo.unary_bufs_sub ..))) $$ [Hb Hub]
  · isplitl [Hb] <;> iassumption
  iintro ⟨Hb, Hub⟩
  rw [wp_ret]; imodintro
  iapply (StableHlo.wp_hlo_within 𝒱 (SparseCore.T d) none Set.univ (op := op4) (S := Pipeline.ucRefs τ sig) (Pipeline.sub_ucRefs _ (StableHlo.reshape_bufs_sub ..))) $$ [Hb Hub]
  · isplitl [Hb] <;> iassumption
  iintro ⟨Hb, Hub⟩
  rw [wp_ret]; imodintro
  -- the first TensorCore kernel
  ihave Hub' := (Entails.of_eq (held_before m d)) $$ Hub
  ihave Hst' := (Entails.of_eq h0) $$ Hst
  icases Hst' with ⟨Ho, Hst⟩
  iapply (call0 m d) $$ [-]
  isplitl [Hst Hts HG1]; swap
  · isplitl [Hb]; · iexact Hb
    isplitl [Hub' Ho]
    · isplitl [Hub'] <;> iassumption
    isplitr; · iapply ((K (F := F)).ctx_levAts κ); iexact Hctx
    iexact HG0
  iintro ⟨Hb, Hub, Ho⟩
  -- the SparseCore call
  ihave Hst' := (Entails.of_eq h0.symm) $$ [Hst Ho]
  · isplitl [Ho] <;> iassumption
  ihave Hub' := (Entails.of_eq (bufs_call d (W2 m d))) $$ Hub
  icases Hub' with ⟨Hp, Ht, Hv, Ho, Hrest⟩
  iapply ((K (F := F)).wp_run (D (F := F)) 𝒱 (EH := EH) (P := PP m) κ d 0) $$ [-]
  isplitr; · iexact Hctx
  isplitl [Hst']; · iexact Hst'
  isplitl [Hp Ht Hv Ho]
  · rw [starts_eq]
    isplitr [Ho]; swap; · iexact Ho
    isplitl [Hp]; · iexact Hp
    isplitl [Ht]; · iexact Ht
    iexact Hv
  iintro ⟨Hst, Hdn⟩
  ihave Hdn' := (Entails.of_eq (dones_eq _ _ _ _ d)) $$ Hdn
  icases Hdn' with ⟨⟨Hp, Ht, Hv⟩, Ho⟩
  ihave Hub := (Entails.of_eq (bufs_called m d).symm) $$ [Hp Ht Hv Ho Hrest]
  · isplitl [Hp]; · iexact Hp
    isplitl [Ht]; · iexact Ht
    isplitl [Hv]; · iexact Hv
    isplitl [Ho]; · iexact Ho
    iexact Hrest
  -- the second TensorCore kernel
  ihave Hst' := (Entails.of_eq h1') $$ Hst
  icases Hst' with ⟨Ho, Hst⟩
  iapply (call1 m d) $$ [-]
  isplitl [Hst Hts]; swap
  · isplitl [Hb]; · iexact Hb
    isplitl [Hub Ho]
    · isplitl [Hub] <;> iassumption
    isplitr; · iapply ((K (F := F)).ctx_levAts κ); iexact Hctx
    iexact HG1
  iintro ⟨Hb, Hub, Ho⟩
  ihave Hst' := (Entails.of_eq h1.symm) $$ [Hst Ho]
  · isplitl [Ho] <;> iassumption
  -- the last reshape
  ihave Hub' := (Entails.of_eq (held_last m d)) $$ Hub
  iapply (StableHlo.wp_hlo_within 𝒱 (SparseCore.T d) none Set.univ (op := op5) (S := Pipeline.ucRefs τ sig) (Pipeline.sub_ucRefs _ (StableHlo.reshape_bufs_sub ..))) $$ [Hb Hub']
  · isplitl [Hb] <;> iassumption
  iintro ⟨Hb, Hub⟩
  rw [wp_ret]; imodintro; imodintro
  ihave Hub' := (Entails.of_eq (held_after m d)) $$ Hub
  ihave Hub := (Entails.of_eq (bufs_end d (W5 m d))) $$ Hub'
  icases Hub with ⟨H0, H1, H2, H8, -⟩
  isplitl [Hst']; · iexact Hst'
  isplitr [Hb Hts]
  · unfold FIN
    isplitl [H0]; · iexact H0
    isplitl [H1]; · iexact H1
    isplitl [H2]; · iexact H2
    iexact H8
  isplitl [Hb] <;> iassumption

/-- What a final state holds: the arguments and the result at the values above. -/
def fq (d : Dev nD) (s' : Phys nD τ sig (Elt F)) : Prop :=
  s'.mem.mem ((d : Thread nD τ).loc main_arg0) = A5 m d main_arg0 ∧ s'.mem.mem ((d : Thread nD τ).loc main_arg1) = A5 m d main_arg1
    ∧ s'.mem.mem ((d : Thread nD τ).loc main_arg2) = A5 m d main_arg2 ∧ s'.mem.mem ((d : Thread nD τ).loc main_v8) = A5 m d main_v8

/-- One whole array agrees with the state. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H8⟩, HSI⟩
  ihave H := (agree s' _ _) $$ [HSI H0]
  · isplitl [H0] <;> iassumption
  icases H with ⟨%h0, HSI⟩
  ihave H := (agree s' _ _) $$ [HSI H1]
  · isplitl [H1] <;> iassumption
  icases H with ⟨%h1, HSI⟩
  ihave H := (agree s' _ _) $$ [HSI H2]
  · isplitl [H2] <;> iassumption
  icases H with ⟨%h2, HSI⟩
  ihave H := (agree s' _ _) $$ [HSI H8]
  · isplitl [H8] <;> iassumption
  icases H with ⟨%h8, HSI⟩
  ipureintro; exact ⟨h0, h1, h2, h8⟩

/-- The program runs to its end: every device's arguments and result at the values above, every semaphore at zero. -/
theorem run_main [∀ e, Nonempty (Elt F e)] :
    θ_run (Cert.KernelIdeal.defs (F := F)) (Cert.KernelIdeal.threads (F := F)) ⟨m, fun _ => 0, ρ⟩ (fun r => (∀ c : Dev nD,
      r.2.mem ((c : Thread nD τ).loc main_arg0) = A5 m c main_arg0 ∧ r.2.mem ((c : Thread nD τ).loc main_arg1) = A5 m c main_arg1
      ∧ r.2.mem ((c : Thread nD τ).loc main_arg2) = A5 m c main_arg2 ∧ r.2.mem ((c : Thread nD τ).loc main_v8) = A5 m c main_v8) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _)
    (fun q _ => match q with | 0 => SparseCore.Cfg.VecSplit.of_plain (vecSplit _ _ _ _))
    m ρ main G (FIN m) (u₀ (F := F)) (sep_elim_left.trans (hu₀ m)) (hmain m ρ) (fq m) (hfin m) _ (fun _ h hz => ⟨h, hz⟩)

end Cert.RunKernelIdeal
end
-- ==== Proof.KernelIdeal.Reads.lean ====
/-
  What the program's arrays hold where the proof reads them: the arguments unchanged, the kernels' inputs as functions
  of the arguments, and the result as the second TensorCore kernel's quotient.
-/
module

public import proofs.«01_k».proof.Proof.KernelIdeal.Main

@[expose] public section

noncomputable section

namespace Cert.RunKernelIdeal

open Cert.KernelIdeal Cert.KernelIdeal.Gen

open Idealize.ShloMosaic Idealize.ShloMosaic.TcCoe Idealize.ShloMosaic.StableHlo
open Idealize.SL.Sem

variable {F : FTy → Type} [FloatOps F]

variable (m : (ℓ : Loc nD τ sig) → Buf (Elt F) ℓ) (d : Dev nD)

/-- The operations before the kernels, as one line. -/
theorem before_eq : W1 m d = after [op0, op1, op2, op3, op4] (W0 m d) := rfl
/-- The last reshape, as a line of one. -/
theorem last_eq : W5 m d = after [op5] (W4 m d) := rfl

/-! ## Before the kernels -/

theorem W1_arg0 : A1 m d main_arg0 = m ((d : Thread nD τ).loc main_arg0) := by
  show W1 m d main_arg0 = _; rw [before_eq]; after_results
theorem W1_arg1 : A1 m d main_arg1 = m ((d : Thread nD τ).loc main_arg1) := by
  show W1 m d main_arg1 = _; rw [before_eq]; after_results
theorem W1_arg2 : A1 m d main_arg2 = m ((d : Thread nD τ).loc main_arg2) := by
  show W1 m d main_arg2 = _; rw [before_eq]; after_results
/-- The threshold, one word per lane, -/
theorem W1_v1 : A1 m d main_v1 = broadcastInDim S16 ![] bcast_S_S16 (sitofp .f32 (m ((d : Thread nD τ).loc main_arg2))) := by
  show W1 m d main_v1 = _; rw [before_eq]; after_results
/-- the predictions, transposed, -/
theorem W1_v2 : A1 m d main_v2 = transpose S200x16384 [1, 0] (m ((d : Thread nD τ).loc main_arg0)) transposes_S16384x200_S200x16384_1_0 := by
  show W1 m d main_v2 = _; rw [before_eq]; after_results
/-- the targets, transposed, -/
theorem W1_v3 : A1 m d main_v3 = transpose S200x16384 [1, 0] (m ((d : Thread nD τ).loc main_arg1)) transposes_S16384x200_S200x16384_1_0 := by
  show W1 m d main_v3 = _; rw [before_eq]; after_results
/-- and the threshold alone. -/
theorem W1_v4 (i : S1.Idx) : A1 m d main_v4 i = (sitofp .f32 (m ((d : Thread nD τ).loc main_arg2)) : S_.Idx → F .f32) (fun a => Fin.elim0 a) := by
  show W1 m d main_v4 i = _; rw [before_eq]; after_results
  exact congrArg (sitofp .f32 (m ((d : Thread nD τ).loc main_arg2)) : S_.Idx → F .f32) (funext fun a => Fin.elim0 a)

/-! ## After them -/

/-- A reference neither kernel nor call writes keeps what it held before them. -/
theorem W4_of_ne {r : Ref sig .tc} (h5 : r ≠ main_v5) (h6 : r ≠ main_v6) (h7 : r ≠ main_v7) : A4 m d r = A1 m d r :=
  (update_ne h7 _).trans ((update_ne h6 _).trans (update_ne h5 _))

theorem W5_of_ne {r : Ref sig .tc} (h : r ≠ main_v8) : A5 m d r = A4 m d r := by
  show (reshape _ _ _ _ : HloOp τ sig (Elt F)).result (W4 m d) r = _
  exact HloOp.result_of_not_mem _ _ fun hm => h (Proc.devRef_injective _ (Finset.mem_singleton.mp hm))

theorem W5_arg0 : A5 m d main_arg0 = m ((d : Thread nD τ).loc main_arg0) :=
  (W5_of_ne m d (by decide)).trans ((W4_of_ne m d (by decide) (by decide) (by decide)).trans (W1_arg0 m d))
theorem W5_arg1 : A5 m d main_arg1 = m ((d : Thread nD τ).loc main_arg1) :=
  (W5_of_ne m d (by decide)).trans ((W4_of_ne m d (by decide) (by decide) (by decide)).trans (W1_arg1 m d))
theorem W5_arg2 : A5 m d main_arg2 = m ((d : Thread nD τ).loc main_arg2) :=
  (W5_of_ne m d (by decide)).trans ((W4_of_ne m d (by decide) (by decide) (by decide)).trans (W1_arg2 m d))

/-- The result is the second TensorCore kernel's quotient. -/
theorem W5_v8 (i : S_.Idx) : A5 m d main_v8 i = quot (A3 m) d t2_0 := by
  show W5 m d main_v8 i = _; rw [last_eq]; after_results
  exact congrFun (show W4 m d main_v7 = quotient (A3 m) d from Function.update_self _ _ _) _

/-- The SparseCore call reads what the operations before the kernels left. -/
theorem A2_of_ne {r : Ref sig .tc} (h5 : r ≠ main_v5) : A2 m d r = A1 m d r := update_ne h5 _
/-- The second TensorCore kernel reads the first one's result -/
theorem A3_v5 : A3 m d main_v5 = partialPair (A1 m) d := (update_ne (by decide) _).trans (Function.update_self _ _ _)
/-- and the tiles'. -/
theorem A3_v6 : A3 m d main_v6 = parts (A1 m d main_v2) (A1 m d main_v3) (A1 m d main_v1) := by
  show W3 m d (Proc.devRef .tc main_v6) = _
  refine Eq.trans (b := tiles m d) (Function.update_self _ _ _) ?_
  unfold tiles
  rw [A2_of_ne m d (by decide), A2_of_ne m d (by decide), A2_of_ne m d (by decide)]

/-- The program runs to its end with its arguments unchanged, its result the quotient, and every semaphore at zero. -/
theorem run_values [∀ e, Nonempty (Elt F e)] (ρ : Dev nD → PrngReg) :
    θ_run (Cert.KernelIdeal.defs (F := F)) (Cert.KernelIdeal.threads (F := F)) ⟨m, fun _ => 0, ρ⟩ (fun r => (∀ c : Dev nD,
      r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v8) = fun _ => quot (A3 m) c t2_0) ∧ r.2.sem = fun _ => 0) :=
  (θ_run (Cert.KernelIdeal.defs (F := F)) _ _).mono (fun _ h => ⟨fun c => ⟨(h.1 c).1.trans (W5_arg0 m c), (h.1 c).2.1.trans (W5_arg1 m c), (h.1 c).2.2.1.trans (W5_arg2 m c),
    (h.1 c).2.2.2.trans (funext fun i => W5_v8 m c i)⟩, h.2⟩) (run_main m ρ)

end Cert.RunKernelIdeal
end
-- ==== Proof.Answer.Terms.lean ====
/-
  One element's share of the answer at the extended reals: its relative error, if its target is over the threshold, and
  a one in the count; and sums of such shares over plain ranges of numbers.
-/
module

public import proofs.«01_k».proof.Proof.KernelIdeal.Values
public import Idealize.ShloMosaic.PureOps.Ideal.Laws
public import Idealize.ShloMosaic.Lib.ValueIdx
public import Idealize.ShloMosaic.Lib.IdealHost

@[expose] public section

noncomputable section

namespace Cert.Answer

open Idealize.ShloMosaic Idealize.ShloMosaic.ValueIdx

/-- The relative error of a prediction `p` of a target `t`, nothing if the target is not over the threshold `θ`. -/
def term (θ p t : EReal) : EReal := if θ < t then max (Ideal.div (t - p) t) (-(Ideal.div (t - p) t)) else 0

/-- One if the target is over the threshold. -/
def mark (θ t : EReal) : ℕ := if θ < t then 1 else 0

/-- The pattern both kernels divide by where a target is not over the threshold is plus infinity. -/
theorem ofBits_top : Ideal.ofBits .f32 0x7F800000#32 = (⊤ : EReal) := by simp [Ideal.ofBits, Ideal.ieee]

/-- Anything divided by plus infinity is zero. -/
theorem div_top (x : EReal) : Ideal.div x ⊤ = 0 := by
  unfold Ideal.div
  rw [if_neg (by simp), EReal.inv_top, mul_zero]

theorem cmp_of_lt {θ t : EReal} (h : θ < t) : Ideal.cmp .ogt t θ = 1#1 := by simp [Ideal.cmp, h]
theorem cmp_of_not {θ t : EReal} (h : ¬ θ < t) : Ideal.cmp .ogt t θ = 0#1 := by simp [Ideal.cmp, h]

/-- The kernels' way to a share: divide by infinity where the target is not over the threshold. -/
theorem term_masked_divisor (θ p t : EReal) :
    max (Ideal.div (t - p) (Scalar.select (Ideal.cmp .ogt t θ) t ⊤)) (-(Ideal.div (t - p) (Scalar.select (Ideal.cmp .ogt t θ) t ⊤))) = term θ p t := by
  unfold term
  by_cases h : θ < t
  · rw [if_pos h, cmp_of_lt h, select_one]
  · rw [if_neg h, cmp_of_not h, select_zero, div_top]; simp

/-- The reference's way: divide by something harmless there, then put zero in the quotient's place. -/
theorem term_masked_quotient (θ p t b : EReal) :
    Scalar.select (Ideal.cmp .ogt t θ) (max (Ideal.div (t - p) (Scalar.select (Ideal.cmp .ogt t θ) t b))
      (-(Ideal.div (t - p) (Scalar.select (Ideal.cmp .ogt t θ) t b)))) 0 = term θ p t := by
  unfold term
  by_cases h : θ < t
  · rw [if_pos h, cmp_of_lt h, select_one, select_one]
  · rw [if_neg h, cmp_of_not h, select_zero]

/-- A comparison's bit, widened to a word, is the mark as a word. -/
theorem mark_widened (θ t : EReal) : (Ideal.cmp .ogt t θ).setWidth 32 = BitVec.ofNat 32 (mark θ t) := by
  unfold mark
  by_cases h : θ < t
  · rw [if_pos h, cmp_of_lt h]; rfl
  · rw [if_neg h, cmp_of_not h]; rfl

/-- So is a choice between the words one and zero. -/
theorem mark_chosen (θ t : EReal) : Scalar.select (Ideal.cmp .ogt t θ) 1#32 0#32 = BitVec.ofNat 32 (mark θ t) := by
  unfold mark
  by_cases h : θ < t
  · rw [if_pos h, cmp_of_lt h]; rfl
  · rw [if_neg h, cmp_of_not h]; rfl

theorem mark_le (θ t : EReal) : mark θ t ≤ 1 := by unfold mark; split <;> omega

/-- A small number as a word, read back signed, is the number. -/
theorem signed_ofNat {n : ℕ} (h : n < 2 ^ 31) : (((BitVec.ofNat 32 n).toInt : ℝ) : EReal) = (n : EReal) := by
  have e : (BitVec.ofNat 32 n).toInt = (n : ℤ) := by
    have hn : (BitVec.ofNat 32 n).toNat = n := by rw [BitVec.toNat_ofNat]; exact Nat.mod_eq_of_lt (by omega)
    rw [BitVec.toInt_eq_toNat_of_lt (by omega), hn]
  rw [e]; simp

/-! ## Sums over plain numbers -/

section
variable {M : Type} [AddCommMonoid M]

/-- A range of `a` blocks of `b` is summed block by block. -/
theorem sum_blocks (f : ℕ → M) (a b : ℕ) : ∑ c ∈ Finset.range (a * b), f c = ∑ i ∈ Finset.range a, ∑ k ∈ Finset.range b, f (b * i + k) := by
  induction a with
  | zero => simp
  | succ a ih =>
    rw [Nat.succ_mul, Finset.sum_range_add, ih, Finset.sum_range_succ]
    simp only [Nat.mul_comm]

/-- The columns in the order the tiles of the SparseCores visit them: lane by lane of each tile's block, over the rows
and the groups of lanes. -/
theorem sum_tiles (f : ℕ → ℕ → M) (R : ℕ) :
    ∑ w ∈ Finset.range 32, ∑ n ∈ Finset.range 16, ∑ r ∈ Finset.range R, ∑ j ∈ Finset.range 8, f r (128 * w + (16 * j + n))
      = ∑ r ∈ Finset.range R, ∑ c ∈ Finset.range 4096, f r c := by
  have hr (r : ℕ) : ∑ c ∈ Finset.range 4096, f r c
      = ∑ w ∈ Finset.range 32, ∑ n ∈ Finset.range 16, ∑ j ∈ Finset.range 8, f r (128 * w + (16 * j + n)) := by
    rw [show 4096 = 32 * 128 from rfl, sum_blocks]
    refine Finset.sum_congr rfl fun w _ => ?_
    rw [show 128 = 8 * 16 from rfl, sum_blocks (fun k => f r (8 * 16 * w + k)), Finset.sum_comm]
  simp only [hr]
  symm
  rw [Finset.sum_comm]
  refine Finset.sum_congr rfl fun w _ => ?_
  rw [Finset.sum_comm]

/-- The columns as the SparseCores' quarter and the three blocks of the TensorCore. -/
theorem sum_quarters (f : ℕ → ℕ → M) (R : ℕ) :
    ∑ r ∈ Finset.range R, ∑ c ∈ Finset.range 16384, f r c
      = ((∑ r ∈ Finset.range R, ∑ c ∈ Finset.range 4096, f r c)
        + (∑ r ∈ Finset.range R, ∑ k ∈ Finset.range 4096, f r (4096 * 1 + k)))
        + (∑ r ∈ Finset.range R, ∑ k ∈ Finset.range 4096, f r (4096 * 2 + k))
        + (∑ r ∈ Finset.range R, ∑ k ∈ Finset.range 4096, f r (4096 * 3 + k)) := by
  simp only [← Finset.sum_add_distrib]
  refine Finset.sum_congr rfl fun r _ => ?_
  have four (g : ℕ → M) : ∑ i ∈ Finset.range 4, g i = g 0 + g 1 + g 2 + g 3 := by simp [Finset.sum_range_succ]
  rw [show 16384 = 4 * 4096 from rfl, sum_blocks, four]
  simp only [Finset.sum_add_distrib, Nat.mul_zero, Nat.zero_add]

/-- A sum over a rectangle's indices is one over its rows' and columns' numbers. -/
theorem sum_rect {n0 n1 : ℕ} (g : (⟨2, ![n0, n1]⟩ : Shape).Idx → M) (f : ℕ → ℕ → M) (h : ∀ a b, g (ix2 a b) = f a.val b.val) :
    ∑ i, g i = ∑ r ∈ Finset.range n0, ∑ c ∈ Finset.range n1, f r c := by
  rw [sum_idx2]
  simp only [h]
  rw [← Fin.sum_univ_eq_sum_range (fun r => ∑ c ∈ Finset.range n1, f r c) n0]
  exact Finset.sum_congr rfl fun a _ => Fin.sum_univ_eq_sum_range (fun c => f a.val c) n1

/-- A sum over an array laid out anew is the sum over the array. -/
theorem sum_recast {s t : Shape} (x : s.Idx → M) (h : s.ShapeCasts t) : ∑ i, shapeCast t x h i = ∑ i, x i :=
  Equiv.sum_comp (Shape.reshapeEquiv h) x
end

end Cert.Answer
end
-- ==== Proof.Answer.Tile.lean ====
/-
  What one tile of the SparseCores writes, at the extended reals: in each lane the sum of the shares of the elements the
  lane met, and their count.
-/
module

public import proofs.«01_k».proof.Proof.Answer.Terms
public import Idealize.ShloMosaic.Lib.Pipeline.Value

@[expose] public section

noncomputable section

namespace Cert.Answer

open Cert.KernelIdeal Cert.KernelIdeal.Gen Cert.RunKernelIdeal
open Idealize.ShloMosaic Idealize.ShloMosaic.ValueIdx

section
variable (v a : FVec Ideal S16 .f32) (X Y : S200x128.Idx → EReal) (r j : ℕ) (l : S16.Idx)

/-- A row of one laid out without its unit axis. -/
theorem dropped (x : S1x16.Idx → EReal) (h : S1x16.ShapeCasts S16) : shapeCast S16 x h l = x (Fin.cons ⟨0, Nat.one_pos⟩ l) :=
  shapeCast_dropUnit_apply ![16] x h l

/-- A group of lanes as a vector, read at a lane. -/
theorem pay4_at : k1_pay4 (F := Ideal) (seg Y r j) l = Y (at2 r (16 * j + (l 0).val)) := by
  unfold k1_pay4
  exact dropped l _ _

/-- The running sum takes the lane's share. -/
theorem pay6_at : k1_pay6 (F := Ideal) v a (seg Y r j) (seg X r j) l
    = a l + term (v l) (X (at2 r (16 * j + (l 0).val))) (Y (at2 r (16 * j + (l 0).val))) := by
  rw [← term_masked_divisor, ← ofBits_top, ← pay4_at Y r j l, ← pay4_at X r j l]
  rfl

/-- The running count takes the lane's mark. -/
theorem pay7_at (k : IVec S16 32) : k1_pay7 (F := Ideal) v k (seg Y r j) l
    = k l + BitVec.ofNat 32 (mark (v l) (Y (at2 r (16 * j + (l 0).val)))) := by
  rw [← mark_chosen, ← pay4_at Y r j l]
  rfl
end

section
variable (v : FVec Ideal S16 .f32) (X Y : S200x128.Idx → EReal) (l : S16.Idx)

/-- The share the lane takes from group `j` of row `r`, -/
def share (r j : ℕ) : EReal := term (v l) (X (at2 r (16 * j + (l 0).val))) (Y (at2 r (16 * j + (l 0).val)))
/-- and its mark. -/
def tick (r j : ℕ) : ℕ := mark (v l) (Y (at2 r (16 * j + (l 0).val)))

/-- The four running sums at a lane after `n` rows. -/
theorem rows_sums (n : ℕ) :
    (rows v X Y n).1 l = ∑ r ∈ Finset.range n, (share v X Y l r 0 + share v X Y l r 4)
    ∧ (rows v X Y n).2.1 l = ∑ r ∈ Finset.range n, (share v X Y l r 1 + share v X Y l r 5)
    ∧ (rows v X Y n).2.2.1 l = ∑ r ∈ Finset.range n, (share v X Y l r 2 + share v X Y l r 6)
    ∧ (rows v X Y n).2.2.2.1 l = ∑ r ∈ Finset.range n, (share v X Y l r 3 + share v X Y l r 7) := by
  induction n with
  | zero => exact ⟨Ideal.ofBits_zero_f32, Ideal.ofBits_zero_f32, Ideal.ofBits_zero_f32, Ideal.ofBits_zero_f32⟩
  | succ n ih =>
    obtain ⟨h0, h1, h2, h3⟩ := ih
    simp only [Finset.sum_range_succ, ← add_assoc]
    rw [← h0, ← h1, ← h2, ← h3]
    refine ⟨?_, ?_, ?_, ?_⟩ <;> exact (pay6_at ..).trans (congrArg (· + _) (pay6_at ..))

/-- The four running counts at a lane after `n` rows. -/
theorem rows_counts (n : ℕ) :
    (rows v X Y n).2.2.2.2.1 l = BitVec.ofNat 32 (∑ r ∈ Finset.range n, (tick v Y l r 0 + tick v Y l r 4))
    ∧ (rows v X Y n).2.2.2.2.2.1 l = BitVec.ofNat 32 (∑ r ∈ Finset.range n, (tick v Y l r 1 + tick v Y l r 5))
    ∧ (rows v X Y n).2.2.2.2.2.2.1 l = BitVec.ofNat 32 (∑ r ∈ Finset.range n, (tick v Y l r 2 + tick v Y l r 6))
    ∧ (rows v X Y n).2.2.2.2.2.2.2 l = BitVec.ofNat 32 (∑ r ∈ Finset.range n, (tick v Y l r 3 + tick v Y l r 7)) := by
  induction n with
  | zero => exact ⟨rfl, rfl, rfl, rfl⟩
  | succ n ih =>
    obtain ⟨h0, h1, h2, h3⟩ := ih
    simp only [Finset.sum_range_succ, ← add_assoc, BitVec.ofNat_add]
    simp only [← BitVec.ofNat_add]
    simp only [BitVec.ofNat_add _ (tick _ _ _ _ _)]
    rw [← h0, ← h1, ← h2, ← h3]
    refine ⟨?_, ?_, ?_, ?_⟩ <;> exact (pay7_at ..).trans (congrArg (· + _) (pay7_at ..))

/-- What the tile writes in its row's first half. -/
theorem accNum_at (n : ℕ) : accNum (rows v X Y n) l = ∑ r ∈ Finset.range n, ∑ j ∈ Finset.range 8, share v X Y l r j := by
  obtain ⟨h0, h1, h2, h3⟩ := rows_sums v X Y l n
  have e : accNum (rows v X Y n) l
      = ((rows v X Y n).1 l + (rows v X Y n).2.1 l) + ((rows v X Y n).2.2.1 l + (rows v X Y n).2.2.2.1 l) := by
    unfold accNum k1_pay2; exact congrFun (shapeCast_self _ _) l
  rw [e, h0, h1, h2, h3]
  simp only [← Finset.sum_add_distrib]
  refine Finset.sum_congr rfl fun r _ => ?_
  simp only [Finset.sum_range_succ, Finset.sum_range_zero, zero_add]
  abel

/-- What it writes in the second half. -/
theorem accCnt_at (n : ℕ) (hn : n ≤ 200) :
    accCnt (rows v X Y n) l = ((∑ r ∈ Finset.range n, ∑ j ∈ Finset.range 8, tick v Y l r j : ℕ) : EReal) := by
  obtain ⟨h0, h1, h2, h3⟩ := rows_counts v X Y l n
  have e : accCnt (rows v X Y n) l = FloatOps.sitofp (F := Ideal) .f32
      (((rows v X Y n).2.2.2.2.1 l + (rows v X Y n).2.2.2.2.2.1 l)
        + ((rows v X Y n).2.2.2.2.2.2.1 l + (rows v X Y n).2.2.2.2.2.2.2 l)) := by
    unfold accCnt k1_pay3; exact congrFun (shapeCast_self _ _) l
  have es : (∑ r ∈ Finset.range n, (tick v Y l r 0 + tick v Y l r 4)) + (∑ r ∈ Finset.range n, (tick v Y l r 1 + tick v Y l r 5))
      + ((∑ r ∈ Finset.range n, (tick v Y l r 2 + tick v Y l r 6)) + (∑ r ∈ Finset.range n, (tick v Y l r 3 + tick v Y l r 7)))
      = ∑ r ∈ Finset.range n, ∑ j ∈ Finset.range 8, tick v Y l r j := by
    simp only [← Finset.sum_add_distrib]
    refine Finset.sum_congr rfl fun r _ => ?_
    simp only [Finset.sum_range_succ, Finset.sum_range_zero, zero_add]
    omega
  have hb : ∑ r ∈ Finset.range n, ∑ j ∈ Finset.range 8, tick v Y l r j ≤ n * (8 * 1) :=
    (Finset.sum_le_card_nsmul _ _ _ fun r _ => (Finset.sum_le_card_nsmul _ _ 1 fun j _ => mark_le _ _).trans
      (by rw [Finset.card_range, smul_eq_mul])).trans (by rw [Finset.card_range, smul_eq_mul])
  rw [e, h0, h1, h2, h3, ← BitVec.ofNat_add, ← BitVec.ofNat_add, ← BitVec.ofNat_add, es]
  exact signed_ofNat (by omega)
end

section
variable (P Q : S200x16384.Idx → EReal) (v : S16.Idx → EReal) {θ : EReal} (hv : ∀ l, v l = θ)
include hv

/-- What tile `w` writes at lane `n` of its row's first half, from the whole arrays, -/
theorem tileOut_num {w n : ℕ} (hw : w < 32) (hn : n < 16) : tileOut (F := Ideal) w P Q v n
    = ∑ r ∈ Finset.range 200, ∑ j ∈ Finset.range 8,
      term θ (P (atBig r (128 * w + (16 * j + n)))) (Q (atBig r (128 * w + (16 * j + n)))) := by
  have hl : ((lane n) 0).val = n := Nat.mod_eq_of_lt hn
  unfold tileOut tileAcc
  rw [if_pos hn, accNum_at]
  refine Finset.sum_congr rfl fun r hr => Finset.sum_congr rfl fun j hj => ?_
  have hj := Finset.mem_range.1 hj
  have hr := Finset.mem_range.1 hr
  have hth : k1_pay134 (F := Ideal) v (lane n) = θ := (congrFun (shapeCast_self _ _) _).trans (hv _)
  unfold share
  rw [hl, hth]
  have hb (A : S200x16384.Idx → EReal) : blockOf (F := Ideal) w A (at2 r (16 * j + n)) = A (atBig r (128 * w + (16 * j + n))) := by
    show A (atBig (r % 200) (128 * w + (16 * j + n) % 128)) = _
    rw [Nat.mod_eq_of_lt hr, Nat.mod_eq_of_lt (show 16 * j + n < 128 by omega)]
  rw [hb P, hb Q]

/-- and at lane `n` of the second. -/
theorem tileOut_cnt {w n : ℕ} (hw : w < 32) (hn : n < 16) : tileOut (F := Ideal) w P Q v (16 + n)
    = ((∑ r ∈ Finset.range 200, ∑ j ∈ Finset.range 8, mark θ (Q (atBig r (128 * w + (16 * j + n)))) : ℕ) : EReal) := by
  have hl : ((lane (16 + n)) 0).val = n := by show (16 + n) % 16 = n; omega
  unfold tileOut tileAcc
  rw [if_neg (by omega), accCnt_at _ _ _ _ _ le_rfl]
  refine congrArg (fun k : ℕ => (k : EReal)) ?_
  refine Finset.sum_congr rfl fun r hr => Finset.sum_congr rfl fun j hj => ?_
  have hj := Finset.mem_range.1 hj
  have hr := Finset.mem_range.1 hr
  have hth : k1_pay134 (F := Ideal) v (lane (16 + n)) = θ := (congrFun (shapeCast_self _ _) _).trans (hv _)
  unfold tick
  rw [hl, hth]
  have hb (A : S200x16384.Idx → EReal) : blockOf (F := Ideal) w A (at2 r (16 * j + n)) = A (atBig r (128 * w + (16 * j + n))) := by
    show A (atBig (r % 200) (128 * w + (16 * j + n) % 128)) = _
    rw [Nat.mod_eq_of_lt hr, Nat.mod_eq_of_lt (show 16 * j + n < 128 by omega)]
  rw [hb Q]
end

end Cert.Answer
end
-- ==== Proof.Answer.Blocks.lean ====
/-
  What the TensorCore's kernels compute from one block, at the extended reals, and which part of the inputs each block is.
-/
module

public import proofs.«01_k».proof.Proof.Answer.Terms
public import proofs.«01_k».proof.Proof.KernelIdeal.Regions
public import Idealize.ShloMosaic.Lib.Pipeline.Value
public import Idealize.ShloMosaic.Lib.Pipeline.ValueKit.Point

@[expose] public section

noncomputable section

namespace Cert.Answer

open Cert.KernelIdeal Cert.KernelIdeal.Gen Cert.RunKernelIdeal
open Idealize.ShloMosaic Idealize.ShloMosaic.ValueIdx Idealize.ShloMosaic.TcCoe

/-- A sum over both axes of a block, read out of the one-word array it is left in. -/
theorem total_of_block {n0 n1 : ℕ} (x : (⟨2, ![n0, n1]⟩ : Shape).Idx → EReal)
    (hc : (⟨2, ![n0, n1]⟩ : Shape).ShapeCasts ⟨3, ![1, n0, n1]⟩) (hr : (⟨3, ![1, n0, n1]⟩ : Shape).Reduces [1, 2] S1)
    (hφ : FKind.Formats .f32) (hacc : 0x00000000#32 = FKind.add.neutral .f32 hφ) :
    extractAt ![0, 0, 0] (shapeCast S1x1x1 (multiReduction (F := Ideal) (φ := .f32) .add [1, 2] S1
      (shapeCast ⟨3, ![1, n0, n1]⟩ x hc) 0x00000000#32 hr hφ hacc) shapeCasts_S1_S1x1x1) inpos_S1x1x1_p0_0_0 = ∑ i, x i := by
  show multiReduction (F := Ideal) (φ := .f32) .add [1, 2] S1 (shapeCast ⟨3, ![1, n0, n1]⟩ x hc) 0x00000000#32 hr hφ hacc _ = _
  rw [Ideal.multiReduction_add_total _ _ hr (by decide)]
  exact sum_recast x hc

section
variable (v : EReal) (Y X : S200x4096.Idx → EReal) (a : EReal)

/-- Which elements of a block are over the threshold. -/
theorem k0_pay2_eq : k0_pay2 (F := Ideal) v Y = cmpf (F := Ideal) (φ := .f32) .ogt Y (broadcast S200x4096 v) := by
  unfold k0_pay2 k0_pay1
  exact congrArg (fun y => cmpf (F := Ideal) (φ := .f32) .ogt y (broadcast S200x4096 v)) (shapeCast_self Y shapeCasts_S200x4096_S200x4096)

/-- The running sum takes the shares of a block. -/
theorem k0_pay3_eq : k0_pay3 (F := Ideal) v Y X a = a + ∑ i, term v (X i) (Y i) := by
  refine congrArg (a + ·) ((total_of_block _ shapeCasts_S200x4096_S1x200x4096 reduces_S1x200x4096_S1 (.inl rfl) rfl).trans
    (Finset.sum_congr rfl fun i _ => ?_))
  rw [← term_masked_divisor, ← ofBits_top, show shapeCast S200x4096 X shapeCasts_S200x4096_S200x4096 = X from shapeCast_self _ _,
    show k0_pay1 (F := Ideal) Y = Y from shapeCast_self _ _,
    k0_pay2_eq]
  rfl

/-- The running count takes its marks. -/
theorem k0_pay4_eq : k0_pay4 (F := Ideal) v Y a = a + ∑ i, ((mark v (Y i) : ℕ) : EReal) := by
  refine congrArg (a + ·) ((total_of_block _ shapeCasts_S200x4096_S1x200x4096 reduces_S1x200x4096_S1 (.inl rfl) rfl).trans
    (Finset.sum_congr rfl fun i _ => ?_))
  rw [k0_pay2_eq]
  show ((((Ideal.cmp .ogt (Y i) v).setWidth 32).toInt : ℝ) : EReal) = _
  rw [mark_widened]
  exact signed_ofNat (lt_of_le_of_lt (mark_le _ _) (by norm_num))
end

/-- The last kernel: both halves of the partial results summed, the TensorCore's pair added, and the quotient. -/
theorem k2_pay1_eq (R : S32x32.Idx → EReal) (a b : EReal) : k2_pay1 (F := Ideal) R a b
    = Ideal.div ((∑ i : S32x16.Idx, R (ValueIdx.ix2 ⟨(i 0).val, (i 0).isLt⟩ ⟨(i 1).val, lt_of_lt_of_le (i 1).isLt (by decide)⟩)) + a)
      ((∑ i : S32x16.Idx, R (ValueIdx.ix2 ⟨(i 0).val, (i 0).isLt⟩ ⟨16 + (i 1).val, Nat.add_lt_add_left (i 1).isLt 16⟩)) + b) := by
  refine congrArg₂ Ideal.div
    (congrArg (· + a) ((total_of_block _ shapeCasts_S32x16_S1x32x16 reduces_S1x32x16_S1 (.inl rfl) rfl).trans (Finset.sum_congr rfl fun i _ => ?_)))
    (congrArg (· + b) ((total_of_block _ shapeCasts_S32x16_S1x32x16 reduces_S1x32x16_S1 (.inl rfl) rfl).trans (Finset.sum_congr rfl fun i _ => ?_)))
  all_goals rw [show shapeCast S32x32 R shapeCasts_S32x32_S32x32 = R from shapeCast_self _ _]
  · exact extractStridedSlice_apply _ _ _ _ _ fun x => by
      match x with
      | 0 => show (i 0).val = 0 + (i 0).val; omega
      | 1 => show (i 1).val = 0 + (i 1).val; omega
  · exact extractStridedSlice_apply _ _ _ _ _ fun x => by
      match x with
      | 0 => show (i 0).val = 0 + (i 0).val; omega
      | 1 => rfl

/-! ## Which part of the inputs a block is -/

section
variable (V : Arrays Ideal) (c : Dev nD)

/-- The last kernel's blocks are the whole of its inputs. -/
theorem blk2_0_eq : blk2_0 V c t2_0 = V c main_v6 := by
  have h : ∀ a, win2_0.index t2_0 a = 0 := by decide +kernel
  funext i
  show V c main_v6 _ = V c main_v6 i
  congr 1; funext a; apply Fin.ext
  blk_simp
  rw [h, Nat.zero_mul, Nat.zero_add]

theorem blk2_1_eq : blk2_1 V c t2_0 = V c main_v5 := by
  have h : ∀ a, win2_1.index t2_0 a = 0 := by decide +kernel
  funext i
  show V c main_v5 _ = V c main_v5 i
  congr 1; funext a; apply Fin.ext
  blk_simp
  rw [h, Nat.zero_mul, Nat.zero_add]

/-- The first kernel's threshold is the same at every step. -/
theorem blk0_0_eq (t : Fin cfg0.N) : blk0_0 V c t one = V c main_v4 one := by
  show V c main_v4 _ = V c main_v4 one
  congr 1; funext a; apply Fin.ext
  match a with
  | 0 => have h1 := (((cfg0.win 0).blk t).view.emb one (0 : Fin 1)).isLt; exact Nat.lt_one_iff.1 h1

/-- At step `t` it reads block `t + 1` of the predictions' columns, -/
theorem blk0_1_eq (t : Fin cfg0.N) (r : Fin 200) (k : Fin 4096) :
    blk0_1 V c t (ValueIdx.ix2 r k) = V c main_v2 (atBig r.val (4096 * (t.val + 1) + k.val)) := by
  have h0 : ∀ t, win0_1.index t 0 = 0 := by decide +kernel
  have h1 : ∀ t, win0_1.index t 1 = t.val + 1 := by decide +kernel
  have ht : t.val < 3 := t.isLt
  have hr := r.isLt
  have hk := k.isLt
  show V c main_v2 _ = V c main_v2 _
  congr 1; funext a; apply Fin.ext
  match a with
  | 0 => blk_simp; rw [h0]; show 0 * 200 + r.val = r.val % 200; omega
  | 1 => blk_simp; rw [h1]; show (t.val + 1) * 4096 + k.val = (4096 * (t.val + 1) + k.val) % 16384; omega

/-- and of the targets'. -/
theorem blk0_2_eq (t : Fin cfg0.N) (r : Fin 200) (k : Fin 4096) :
    blk0_2 V c t (ValueIdx.ix2 r k) = V c main_v3 (atBig r.val (4096 * (t.val + 1) + k.val)) := by
  have h0 : ∀ t, win0_2.index t 0 = 0 := by decide +kernel
  have h1 : ∀ t, win0_2.index t 1 = t.val + 1 := by decide +kernel
  have ht : t.val < 3 := t.isLt
  have hr := r.isLt
  have hk := k.isLt
  show V c main_v3 _ = V c main_v3 _
  congr 1; funext a; apply Fin.ext
  match a with
  | 0 => blk_simp; rw [h0]; show 0 * 200 + r.val = r.val % 200; omega
  | 1 => blk_simp; rw [h1]; show (t.val + 1) * 4096 + k.val = (4096 * (t.val + 1) + k.val) % 16384; omega

/-- One step of the first kernel, over plain ranges of rows and columns. -/
theorem pairStep_eq (t : Fin cfg0.N) (a : EReal × EReal) : pairStep V c t a
    = (a.1 + ∑ r ∈ Finset.range 200, ∑ k ∈ Finset.range 4096, term (V c main_v4 one)
        (V c main_v2 (atBig r (4096 * (t.val + 1) + k))) (V c main_v3 (atBig r (4096 * (t.val + 1) + k))),
       a.2 + ∑ r ∈ Finset.range 200, ∑ k ∈ Finset.range 4096, ((mark (V c main_v4 one)
        (V c main_v3 (atBig r (4096 * (t.val + 1) + k))) : ℕ) : EReal)) := by
  refine Prod.ext ?_ ?_
  · refine (k0_pay3_eq _ _ _ _).trans (congrArg (a.1 + ·) (sum_rect _ _ fun r k => ?_))
    rw [blk0_0_eq, blk0_1_eq, blk0_2_eq]
  · refine (k0_pay4_eq _ _ _).trans (congrArg (a.2 + ·) (sum_rect _ _ fun r k => ?_))
    rw [blk0_0_eq, blk0_2_eq]
end

end Cert.Answer
end
-- ==== Proof.Answer.Whole.lean ====
/-
  The kernel's result at the extended reals: the sum of the relative errors of the targets over the threshold, divided
  by how many such targets there are.
-/
module

public import proofs.«01_k».proof.Proof.Answer.Tile
public import proofs.«01_k».proof.Proof.Answer.Blocks
public import proofs.«01_k».proof.Proof.KernelIdeal.Reads

@[expose] public section

noncomputable section

namespace Cert.Answer

open Cert.KernelIdeal Cert.KernelIdeal.Gen Cert.RunKernelIdeal
open Idealize.ShloMosaic Idealize.ShloMosaic.TcCoe
open Idealize.SL.Sem

/-- The masked mean of the relative errors of predictions `P` of targets `T`. -/
def answer (θ : EReal) (P T : S16384x200.Idx → EReal) : EReal :=
  Ideal.div (∑ i, term θ (P i) (T i)) ((∑ i, mark θ (T i) : ℕ) : EReal)

/-- The columns of the kernel's inputs are the rows of the arguments. -/
theorem transposed_at (A : S16384x200.Idx → EReal) (r : Fin 200) (c : Fin 16384) :
    transpose S200x16384 [1, 0] A transposes_S16384x200_S200x16384_1_0 (atBig r.val c.val) = A (ValueIdx.ix2 c r) := by
  have hr := r.isLt
  have hc := c.isLt
  refine transpose_apply _ _ _ _ _ fun b => ?_
  match b with
  | 0 => show r.val = r.val % 200; omega
  | 1 => show c.val = c.val % 16384; omega

/-- A sum over the arguments' elements, taken over the kernel's rows and columns. -/
theorem sum_transposed {M : Type} [AddCommMonoid M] (g : ℕ → ℕ → M) (f : S16384x200.Idx → M)
    (h : ∀ (r : Fin 200) (c : Fin 16384), g r.val c.val = f (ValueIdx.ix2 c r)) :
    ∑ r ∈ Finset.range 200, ∑ c ∈ Finset.range 16384, g r c = ∑ i, f i := by
  rw [Finset.sum_comm]
  exact (sum_rect f (fun c r => g r c) fun c r => (h r c).symm).symm

section
variable (P Q : S200x16384.Idx → EReal) (v : S16.Idx → EReal) {θ : EReal} (hv : ∀ l, v l = θ)
include hv

/-- The tiles' sums together are the sum over the first quarter of the columns, -/
theorem parts_sums : ∑ i : S32x16.Idx, parts (F := Ideal) P Q v
      (ValueIdx.ix2 ⟨(i 0).val, (i 0).isLt⟩ ⟨(i 1).val, lt_of_lt_of_le (i 1).isLt (by decide)⟩)
    = ∑ r ∈ Finset.range 200, ∑ c ∈ Finset.range 4096, term θ (P (atBig r c)) (Q (atBig r c)) := by
  rw [← sum_tiles fun r c => term θ (P (atBig r c)) (Q (atBig r c))]
  refine sum_rect _ _ fun w n => ?_
  exact tileOut_num P Q v hv w.isLt n.isLt

/-- and their counts the count. -/
theorem parts_counts : ∑ i : S32x16.Idx, parts (F := Ideal) P Q v
      (ValueIdx.ix2 ⟨(i 0).val, (i 0).isLt⟩ ⟨16 + (i 1).val, Nat.add_lt_add_left (i 1).isLt 16⟩)
    = ((∑ r ∈ Finset.range 200, ∑ c ∈ Finset.range 4096, mark θ (Q (atBig r c)) : ℕ) : EReal) := by
  rw [← sum_tiles fun r c => mark θ (Q (atBig r c))]
  simp only [Nat.cast_sum]
  refine sum_rect _ _ fun w n => ?_
  refine (tileOut_cnt P Q v hv w.isLt n.isLt).trans ?_
  simp only [Nat.cast_sum]
end

/-- What the first TensorCore kernel leaves: the sum and the count over the other three quarters. -/
theorem pair2_eq (V : Arrays Ideal) (c : Dev nD) (f : ℕ → ℕ → EReal) (g : ℕ → ℕ → ℕ)
    (hf : ∀ r k, term (V c main_v4 one) (V c main_v2 (atBig r k)) (V c main_v3 (atBig r k)) = f r k)
    (hg : ∀ r k, mark (V c main_v4 one) (V c main_v3 (atBig r k)) = g r k) :
    pair2 V c = (((∑ r ∈ Finset.range 200, ∑ k ∈ Finset.range 4096, f r (4096 * 1 + k))
        + ∑ r ∈ Finset.range 200, ∑ k ∈ Finset.range 4096, f r (4096 * 2 + k))
        + ∑ r ∈ Finset.range 200, ∑ k ∈ Finset.range 4096, f r (4096 * 3 + k),
      ((∑ r ∈ Finset.range 200, ∑ k ∈ Finset.range 4096, ((g r (4096 * 1 + k) : ℕ) : EReal))
        + ∑ r ∈ Finset.range 200, ∑ k ∈ Finset.range 4096, ((g r (4096 * 2 + k) : ℕ) : EReal))
        + ∑ r ∈ Finset.range 200, ∑ k ∈ Finset.range 4096, ((g r (4096 * 3 + k) : ℕ) : EReal)) := by
  unfold pair2 pair1 pair0
  rw [pairStep_eq, pairStep_eq, pairStep_eq]
  simp only [hf, hg]
  have z : (zf (F := Ideal) : EReal) = 0 := Ideal.ofBits_zero_f32
  rw [z, zero_add, zero_add, show t0_0.val + 1 = 1 from rfl, show t0_1.val + 1 = 2 from rfl, show t0_2.val + 1 = 3 from rfl]

section
variable (m : (ℓ : Loc nD τ sig) → Buf (Elt Ideal) ℓ) (c : Dev nD)

/-- The threshold. -/
abbrev thr : EReal := (sitofp .f32 (m ((c : Thread nD τ).loc main_arg2)) : FVec Ideal S_ .f32) (fun a => Fin.elim0 a)
abbrev preds : S16384x200.Idx → EReal := m ((c : Thread nD τ).loc main_arg0)
abbrev targs : S16384x200.Idx → EReal := m ((c : Thread nD τ).loc main_arg1)

/-- Every lane of the kernel's threshold vector is the threshold. -/
theorem thr_lane (l : S16.Idx) : (A1 m c main_v1 : S16.Idx → EReal) l = thr m c :=
  (congrFun (W1_v1 m c) l).trans (broadcastInDim_apply _ _ _ _ (fun a => Fin.elim0 a) fun a => Fin.elim0 a)

/-- The kernel's result is the masked mean. -/
theorem kernel_answer : quot (A3 m) c t2_0 = answer (thr m c) (preds m c) (targs m c) := by
  have hv := thr_lane m c
  unfold quot
  rw [blk2_0_eq, blk2_1_eq, A3_v6, A3_v5]
  show k2_pay1 (F := Ideal) _ (pairOf (pairVec (pair2 (A1 m) c))).1 (pairOf (pairVec (pair2 (A1 m) c))).2 = _
  rw [pairOf_pairVec, pair2_eq (A1 m) c (fun r k => term (thr m c) (A1 m c main_v2 (atBig r k)) (A1 m c main_v3 (atBig r k)))
      (fun r k => mark (thr m c) (A1 m c main_v3 (atBig r k))) (fun r k => by rw [W1_v4]) (fun r k => by rw [W1_v4]),
    k2_pay1_eq, parts_sums _ _ _ hv, parts_counts _ _ _ hv]
  unfold answer
  refine congrArg₂ Ideal.div ?_ ?_
  · rw [← sum_transposed (fun r k => term (thr m c) (A1 m c main_v2 (atBig r k)) (A1 m c main_v3 (atBig r k))) _
      (fun r k => by rw [W1_v2, W1_v3, transposed_at, transposed_at]), sum_quarters]
    simp only [add_assoc]
  · rw [← sum_transposed (fun r k => mark (thr m c) (A1 m c main_v3 (atBig r k))) _
      (fun r k => by rw [W1_v3, transposed_at]), sum_quarters]
    simp only [Nat.cast_add, Nat.cast_sum, add_assoc]
end

end Cert.Answer
end
-- ==== Proof.Answer.Host.lean ====
/-
  The reference's result at the extended reals: the same masked mean.
-/
module

public import proofs.«01_k».proof.Proof.Answer.Whole
public import proofs.«01_k».proof.Proof.Gen.ReferenceIdeal.Run
public import Idealize.ShloMosaic.Lib.IndicatorCount

@[expose] public section

noncomputable section

namespace Cert.Answer

open Cert.ReferenceIdeal Cert.ReferenceIdeal.Gen
open Idealize.ShloMosaic Idealize.ShloMosaic.TcCoe

variable (P T : FVec Ideal S16384x200 .f32) (n : IVec S_ 32)

/-- The reference's threshold at every element. -/
abbrev spread : FVec Ideal S16384x200 .f32 := broadcastInDim S16384x200 ![] bcast_S_S16384x200 (sitofp .f32 n)

/-- Which targets are over the threshold. -/
abbrev over : IVec S16384x200 1 := cmpf (F := Ideal) (φ := .f32) .ogt T (spread n)

/-- The threshold as a number. -/
abbrev thrOf : EReal := (sitofp .f32 n : FVec Ideal S_ .f32) (fun a => Fin.elim0 a)

theorem spread_at (i : S16384x200.Idx) : spread n i = thrOf n :=
  broadcastInDim_apply _ _ _ _ (fun a => Fin.elim0 a) fun a => Fin.elim0 a

theorem over_at (i : S16384x200.Idx) : over T n i = Ideal.cmp .ogt (T i) (thrOf n) := by
  rw [← spread_at n i]; rfl

/-- There are few enough elements that their marks' sum is a small number. -/
theorem marks_small (θ : EReal) : ∑ i, mark θ (T i) < 2 ^ 31 := by
  rw [sum_rect (fun i => mark θ (T i)) (fun a b => mark θ (T (ValueIdx.ix2 ⟨a % 16384, Nat.mod_lt _ (by decide)⟩ ⟨b % 200, Nat.mod_lt _ (by decide)⟩)))
    fun a b => by
      have ha := a.isLt
      have hb := b.isLt
      simp only [Nat.mod_eq_of_lt ha, Nat.mod_eq_of_lt hb]]
  refine lt_of_le_of_lt (Finset.sum_le_card_nsmul _ _ 200 fun r _ => ?_) (by rw [Finset.card_range, smul_eq_mul]; norm_num)
  exact (Finset.sum_le_card_nsmul _ _ 1 fun j _ => mark_le _ _).trans (by rw [Finset.card_range, smul_eq_mul])

/-- The integer sum of the comparison's bits is the count of the marks, as a word. -/
theorem count_word (j : S_.Idx) : Host.reduce IntOp.addi (extui 32 (over T n) natLt_1_32) (constantI S_ 32 0#32) reducesTo_S16384x200_S_d0_1 h_S_ j
    = BitVec.ofNat 32 (∑ i, mark (thrOf n) (T i)) := by
  rw [Host.reduce_eq_fold, Finset.filter_true_of_mem fun i _ => funext fun b => Fin.elim0 b]
  refine (IndicatorCount.fold_addi_setWidth_eq_card (over T n) Finset.univ).trans ?_
  rw [Finset.card_filter]
  refine congrArg (BitVec.ofNat 32) (Finset.sum_congr rfl fun i _ => ?_)
  rw [over_at]
  unfold mark
  by_cases h : thrOf n < T i
  · rw [cmp_of_lt h, if_pos rfl, if_pos h]
  · rw [cmp_of_not h, if_neg (by decide), if_neg h]

/-- The reference's result is the masked mean. -/
theorem reference_answer (j : S_.Idx) :
    Host.divf (F := Ideal) (φ := .f32)
      (Host.reduceAdd (select (over T n)
          (Host.absf (Host.divf (subf T P) (select (over T n) T (broadcastInDim S16384x200 ![] bcast_S_S16384x200 (constant S_ .f32 0x3F800000#32)))))
          (broadcastInDim S16384x200 ![] bcast_S_S16384x200 (constant S_ .f32 0x00000000#32)))
        (constant S_ .f32 0x00000000#32) reducesTo_S16384x200_S_d0_1 h_S_)
      (sitofp .f32 (Host.reduce IntOp.addi (extui 32 (over T n) natLt_1_32) (constantI S_ 32 0#32) reducesTo_S16384x200_S_d0_1 h_S_)) j
    = answer (thrOf n) P T := by
  show Ideal.div _ _ = _
  unfold answer
  refine congrArg₂ Ideal.div ?_ ?_
  · rw [ValueIdx.hostReduceAdd_apply, Ideal.hostReduceAdd_total _ (fun b => Fin.elim0 b)]
    rw [show (constant (F := Ideal) S_ .f32 0x00000000#32) (Shape.Idx.first h_S_) = (0 : EReal) from Ideal.ofBits_zero_f32, zero_add]
    refine Finset.sum_congr rfl fun i _ => ?_
    rw [← term_masked_quotient (thrOf n) (P i) (T i) (Ideal.ofBits .f32 0x3F800000#32), ← over_at, ← Ideal.ofBits_zero_f32]
    rfl
  · show (((Host.reduce IntOp.addi (extui 32 (over T n) natLt_1_32) (constantI S_ 32 0#32) reducesTo_S16384x200_S_d0_1 h_S_ j).toInt : ℝ) : EReal) = _
    rw [count_word]
    exact signed_ofNat (marks_small T _)

end Cert.Answer
end
-- ==== Proof.lean ====
/-
  The certificate: the kernel and the reference run to their ends with their arguments unchanged, and at the extended
  reals they end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Reads
public import proofs.«01_k».proof.Proof.KernelIdeal.Reads
public import proofs.«01_k».proof.Proof.Answer.Host
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel, on machine floats: it runs to its end, its arguments unchanged and every semaphore back at zero. -/
theorem frame_kernel : Cert.quiescent_Kernel := fun m ρ _ =>
  (θ_run (Cert.Kernel.defs (F := Bits)) _ _).mono
    (fun _ h => ⟨fun c => ⟨(h.1 c).1, (h.1 c).2.1, (h.1 c).2.2.1⟩, h.2⟩) (Cert.RunKernel.run_values (F := Bits) m ρ)

/-- The same of the kernel read at the extended reals, -/
theorem frame_kernel_ideal : Cert.quiescent_KernelIdeal := fun m ρ _ =>
  (θ_run (Cert.KernelIdeal.defs (F := Ideal)) _ _).mono
    (fun _ h => ⟨fun c => ⟨(h.1 c).1, (h.1 c).2.1, (h.1 c).2.2.1⟩, h.2⟩) (Cert.RunKernelIdeal.run_values (F := Ideal) m ρ)

/-- and of the reference, which has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- At the extended reals, from the same arguments, the kernel and the reference both end with the masked mean of the
relative errors. -/
theorem same_answer : Cert.algebraic_KernelIdeal_ReferenceIdeal := by
  intro m g m' g' _ hag
  refine ⟨fun c => fun _ => Cert.Answer.answer (Cert.Answer.thr m c) (Cert.Answer.preds m c) (Cert.Answer.targs m c), ?_, ?_⟩
  · refine (θ_run (Cert.KernelIdeal.defs (F := Ideal)) _ _).mono (fun _ h c => ?_) (Cert.RunKernelIdeal.run_values (F := Ideal) m g)
    obtain ⟨h0, h1, h2, h3⟩ := h.1 c
    exact ⟨h3.trans (funext fun _ => Cert.Answer.kernel_answer m c), h0, h1, h2⟩
  · refine (θ_run (Cert.ReferenceIdeal.defs (F := Ideal)) _ _).mono (fun _ h c => ?_) (Cert.ReferenceIdeal.Value.run (F := Ideal) m' g')
    obtain ⟨h3, h0, h1, h2⟩ := h c
    obtain ⟨a0, a1, a2⟩ := hag c
    refine ⟨h3.trans (funext fun j => ?_), h0, h1, h2⟩
    rw [a0, a1, a2]
    exact Cert.Answer.reference_answer _ _ _ j

/-- Everything claimed. -/
theorem claim : Cert.Claim := ⟨Cert.Kernel.Gen.facts, Cert.KernelIdeal.Gen.facts, Cert.ReferenceIdeal.Gen.facts,
  frame_kernel, frame_kernel_ideal, frame_reference, trivial, same_answer⟩

end Cert.Proof

end
